-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x7168 : Shape := ⟨3, ![1, 256, 7168]⟩
abbrev S18432x896x2 : Shape := ⟨3, ![18432, 896, 2]⟩
abbrev S2x256x8 : Shape := ⟨3, ![2, 256, 8]⟩
abbrev S18432 : Shape := ⟨1, ![18432]⟩
abbrev S256x7x128x8 : Shape := ⟨4, ![256, 7, 128, 8]⟩
abbrev S256x7x8x128 : Shape := ⟨4, ![256, 7, 8, 128]⟩
abbrev S256x7168 : Shape := ⟨2, ![256, 7168]⟩
abbrev S2x18432x896 : Shape := ⟨3, ![2, 18432, 896]⟩
abbrev S2x8x256 : Shape := ⟨3, ![2, 8, 256]⟩
abbrev S1x18432 : Shape := ⟨2, ![1, 18432]⟩
abbrev S256x18432 : Shape := ⟨2, ![256, 18432]⟩
abbrev S2x256x896 : Shape := ⟨3, ![2, 256, 896]⟩
abbrev S1x256 : Shape := ⟨2, ![1, 256]⟩
abbrev S256x256 : Shape := ⟨2, ![256, 256]⟩
abbrev S2x16x32x128 : Shape := ⟨4, ![2, 16, 32, 128]⟩
abbrev S1x8x256 : Shape := ⟨3, ![1, 8, 256]⟩
abbrev S8x256 : Shape := ⟨2, ![8, 256]⟩
abbrev S1x128 : Shape := ⟨2, ![1, 128]⟩
abbrev S32x128 : Shape := ⟨2, ![32, 128]⟩
abbrev S8x128 : Shape := ⟨2, ![8, 128]⟩
abbrev S1x1x32x128 : Shape := ⟨4, ![1, 1, 32, 128]⟩
abbrev S1x32x128 : Shape := ⟨3, ![1, 32, 128]⟩
abbrev S32x128x1 : Shape := ⟨3, ![32, 128, 1]⟩
abbrev S256x1024 : Shape := ⟨2, ![256, 1024]⟩
abbrev S1x256x18432 : Shape := ⟨3, ![1, 256, 18432]⟩

abbrev nBuf : Space → Nat
  | .hbm => 12
  | .vmem => 10
  | .smem => 0
  | _ => 0

abbrev bufTy : (tb : Table) → Fin (tcTables nBuf tb) → BufTy
  | .hbm, ⟨0, _⟩ => ⟨S1x256x7168, .bf16⟩
  | .hbm, ⟨1, _⟩ => ⟨S18432x896x2, .i8⟩
  | .hbm, ⟨2, _⟩ => ⟨S2x256x8, .i8⟩
  | .hbm, ⟨3, _⟩ => ⟨S18432, .f32⟩
  | .hbm, ⟨4, _⟩ => ⟨S256x7x128x8, .bf16⟩
  | .hbm, ⟨5, _⟩ => ⟨S256x7x8x128, .bf16⟩
  | .hbm, ⟨6, _⟩ => ⟨S256x7168, .bf16⟩
  | .hbm, ⟨7, _⟩ => ⟨S2x18432x896, .i8⟩
  | .hbm, ⟨8, _⟩ => ⟨S2x8x256, .i8⟩
  | .hbm, ⟨9, _⟩ => ⟨S1x18432, .f32⟩
  | .hbm, ⟨10, _⟩ => ⟨S256x18432, .bf16⟩
  | .hbm, ⟨11, _⟩ => ⟨S1x256x18432, .bf16⟩
  | .local _ .vmem, ⟨0, _⟩ => ⟨S256x7168, .bf16⟩
  | .local _ .vmem, ⟨1, _⟩ => ⟨S2x256x896, .i8⟩
  | .local _ .vmem, ⟨2, _⟩ => ⟨S2x256x896, .i8⟩
  | .local _ .vmem, ⟨3, _⟩ => ⟨S2x8x256, .i8⟩
  | .local _ .vmem, ⟨4, _⟩ => ⟨S1x256, .f32⟩
  | .local _ .vmem, ⟨5, _⟩ => ⟨S1x256, .f32⟩
  | .local _ .vmem, ⟨6, _⟩ => ⟨S256x256, .bf16⟩
  | .local _ .vmem, ⟨7, _⟩ => ⟨S256x256, .bf16⟩
  | .local _ .vmem, ⟨8, _⟩ => ⟨S2x16x32x128, .i8⟩
  | .local _ .vmem, ⟨9, _⟩ => ⟨S256x7168, .bf16⟩
  | _, _ => ⟨S1x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x256x896 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x8x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x256x7168 : Shape := ⟨3, ![1, 256, 7168]⟩
abbrev S18432x896x2 : Shape := ⟨3, ![18432, 896, 2]⟩
abbrev S2x256x8 : Shape := ⟨3, ![2, 256, 8]⟩
abbrev S18432 : Shape := ⟨1, ![18432]⟩
abbrev S2 : Shape := ⟨1, ![2]⟩
abbrev S_ : Shape := ⟨0, ![]⟩
abbrev S18432x896x2x1 : Shape := ⟨4, ![18432, 896, 2, 1]⟩
abbrev S18432x896x2x2 : Shape := ⟨4, ![18432, 896, 2, 2]⟩
abbrev S18432x896x2x8 : Shape := ⟨4, ![18432, 896, 2, 8]⟩
abbrev S18432x896x8 : Shape := ⟨3, ![18432, 896, 8]⟩
abbrev S18432x7168 : Shape := ⟨2, ![18432, 7168]⟩
abbrev S1x256x18432 : Shape := ⟨3, ![1, 256, 18432]⟩
abbrev S1x1x18432 : Shape := ⟨3, ![1, 1, 18432]⟩

abbrev nBuf : Space → Nat
  | .hbm => 35
  | .vmem => 2
  | .smem => 0
  | _ => 0

abbrev bufTy : (tb : Table) → Fin (tcTables nBuf tb) → BufTy
  | .hbm, ⟨0, _⟩ => ⟨S1x256x7168, .bf16⟩
  | .hbm, ⟨1, _⟩ => ⟨S18432x896x2, .i8⟩
  | .hbm, ⟨2, _⟩ => ⟨S2x256x8, .i8⟩
  | .hbm, ⟨3, _⟩ => ⟨S18432, .f32⟩
  | .hbm, ⟨4, _⟩ => ⟨S2x256x8, .f32⟩
  | .hbm, ⟨5, _⟩ => ⟨S18432x896x2, .i32⟩
  | .hbm, ⟨6, _⟩ => ⟨S2, .i32⟩
  | .hbm, ⟨7, _⟩ => ⟨S_, .i32⟩
  | .hbm, ⟨8, _⟩ => ⟨S2, .i32⟩
  | .hbm, ⟨9, _⟩ => ⟨S2, .i1⟩
  | .hbm, ⟨10, _⟩ => ⟨S_, .i32⟩
  | .hbm, ⟨11, _⟩ => ⟨S2, .i32⟩
  | .hbm, ⟨12, _⟩ => ⟨S2, .i32⟩
  | .hbm, ⟨13, _⟩ => ⟨S2, .i32⟩
  | .hbm, ⟨14, _⟩ => ⟨S_, .i32⟩
  | .hbm, ⟨15, _⟩ => ⟨S18432x896x2, .i32⟩
  | .hbm, ⟨16, _⟩ => ⟨S18432x896x2, .i1⟩
  | .hbm, ⟨17, _⟩ => ⟨S_, .i32⟩
  | .hbm, ⟨18, _⟩ => ⟨S18432x896x2, .i32⟩
  | .hbm, ⟨19, _⟩ => ⟨S18432x896x2, .i32⟩
  | .hbm, ⟨20, _⟩ => ⟨S18432x896x2, .i32⟩
  | .hbm, ⟨21, _⟩ => ⟨S18432x896x2, .i32⟩
  | .hbm, ⟨22, _⟩ => ⟨S18432x896x2x1, .i32⟩
  | .hbm, ⟨23, _⟩ => ⟨S18432x896x2x1, .i32⟩
  | .hbm, ⟨24, _⟩ => ⟨S18432x896x2x2, .i32⟩
  | .hbm, ⟨25, _⟩ => ⟨S18432x896x2x8, .f32⟩
  | .hbm, ⟨26, _⟩ => ⟨S_, .f32⟩
  | .hbm, ⟨27, _⟩ => ⟨S18432x896x8, .f32⟩
  | .hbm, ⟨28, _⟩ => ⟨S18432x896x8, .bf16⟩
  | .hbm, ⟨29, _⟩ => ⟨S18432x7168, .bf16⟩
  | .hbm, ⟨30, _⟩ => ⟨S1x256x18432, .f32⟩
  | .hbm, ⟨31, _⟩ => ⟨S1x1x18432, .f32⟩
  | .hbm, ⟨32, _⟩ => ⟨S1x256x18432, .f32⟩
  | .hbm, ⟨33, _⟩ => ⟨S1x256x18432, .f32⟩
  | .hbm, ⟨34, _⟩ => ⟨S1x256x18432, .bf16⟩
  | .local _ .vmem, ⟨0, _⟩ => ⟨S2x256x8, .i8⟩
  | .local _ .vmem, ⟨1, _⟩ => ⟨S2x256x8, .f32⟩
  | _, _ => ⟨S1x256x7168, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x256x8 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Decode.lean ====
/-
  The decoding of one 32 × 128 tile of codes, byte by byte.

  The kernel works on words: it reads four bytes of a column as one 32-bit word, masks, shifts and xors whole words
  and reads the bytes back. Here each of those word computations is shown to be a computation on every byte by
  itself, and a lane gather at the low seven bits of a code is shown to be the read of the table row at that place.
-/
module

public import Idealize.ShloMosaic.Lib.BitcastFour
public import Idealize.ShloMosaic.Lib.Pipeline.Value
public import Idealize.ShloMosaic.Lib.Pipeline.Kit

@[expose] public section

noncomputable section

namespace Cert.Decode

open Idealize.ShloMosaic ValueIdx

/-- A tile of bytes, the same tile as words (four rows to a word), and the tile with a unit axis. -/
abbrev Tile : Shape := ⟨2, ![32, 128]⟩
abbrev Words : Shape := ⟨2, ![8, 128]⟩
abbrev Tile1 : Shape := ⟨3, ![32, 128, 1]⟩

/-- What the kernel makes of one code: the low half's byte, changed by the difference of the halves when the code's
    top bit is set. -/
def pick (lo dx c : BitVec 8) : BitVec 8 := lo ^^^ (dx &&& (if c.getLsbD 7 then 255#8 else 0#8))

/-- When `dx` is the difference of the two halves, this picks the half the code's top bit names. -/
theorem pick_xor (lo hi c : BitVec 8) : pick lo (lo ^^^ hi) c = if c.getLsbD 7 then hi else lo := by
  unfold pick
  by_cases h : c.getLsbD 7 = true
  · rw [if_pos h, if_pos h]
    apply BitVec.eq_of_getLsbD_eq
    intro i hi
    have : (255#8).getLsbD i = true := by
      have : ∀ i : Fin 8, (255#8).getLsbD i = true := by decide
      exact this ⟨i, hi⟩
    simp [BitVec.getLsbD_xor, BitVec.getLsbD_and, this]
  · rw [if_neg h, if_neg h]
    simp

/-- A bit of a byte read back out of the words is a bit of the word of its column. -/
theorem back_bit (y : Words.Idx → BitVec 32) (h : Words.Bitcasts 32 Tile 8) (a : Fin 32) (l : Fin 128) (q : ℕ) (hq : q < 8) :
    (bitcast Tile 8 y h (ix2 a l)).getLsbD q = (y (ix2 (⟨a.val / 4, by omega⟩ : Fin 8) l)).getLsbD (8 * (a.val % 4) + q) := by
  rw [bitcast_getLsbD y h _ q hq (by decide)]
  have hr : Tile.row (ix2 a l) = a.val := rfl
  have e2 : (Tile.row (ix2 a l) * 8 + q) % 32 = 8 * (a.val % 4) + q := by rw [hr]; omega
  rw [e2]
  congr 2
  funext c
  match c with
  | ⟨0, _⟩ =>
    exact Fin.ext ((h.srcIdx_row _ _ _ ⟨0, Nat.zero_lt_two⟩ rfl).trans (by
      show (Tile.row (ix2 a l) * 8 + q) / 32 = a.val / 4
      rw [hr]; omega))
  | ⟨1, _⟩ => exact Fin.ext (h.srcIdx_other _ _ _ ⟨1, Nat.one_lt_two⟩ (by show ¬ 1 + 2 = 2; omega))

/-- A bit of the word of a column, at the byte of row `a`, is that bit of the byte. -/
theorem word_bit (x : Tile.Idx → BitVec 8) (h : Tile.Bitcasts 8 Words 32) (a : Fin 32) (l : Fin 128) (q : ℕ) (hq : q < 8) :
    (bitcast Words 32 x h (ix2 (⟨a.val / 4, by omega⟩ : Fin 8) l)).getLsbD (8 * (a.val % 4) + q) = (x (ix2 a l)).getLsbD q := by
  have := bitcast_8_32_getLsbD_ix2 x h (⟨a.val / 4, by omega⟩ : Fin 8) l (8 * (a.val % 4) + q) (by omega) a (by
    show a.val = 4 * (a.val / 4) + (8 * (a.val % 4) + q) / 8
    omega)
  rw [this]
  congr 1
  omega

/-- The seven-bit mask, byte by byte. -/
theorem mask_bit : ∀ (r : Fin 4) (q : Fin 8), (2139062143#32).getLsbD (8 * r.val + q.val) = (127#8).getLsbD q.val := by decide

/-- The low seven bits of every code, taken on words. -/
theorem index_bytes (c : IVec Tile 8) (h : Tile.Bitcasts 8 Words 32) (h' : Words.Bitcasts 32 Tile 8) (a : Fin 32) (l : Fin 128) :
    bitcast Tile 8 (andi (bitcast Words 32 c h) (broadcast Words 2139062143#32)) h' (ix2 a l) = c (ix2 a l) &&& 127#8 := by
  apply BitVec.eq_of_getLsbD_eq
  intro q hq
  rw [back_bit _ h' a l q hq]
  show (bitcast Words 32 c h _ &&& 2139062143#32).getLsbD _ = _
  rw [BitVec.getLsbD_and, BitVec.getLsbD_and, word_bit c h a l q hq, mask_bit ⟨a.val % 4, by omega⟩ ⟨q, hq⟩]

/-- Every byte of `((w >> 7) & 0x01010101) * 255` is 255 or 0 by the top bit of that byte of `w`: the four top bits
    are all that matters, and the sixteen cases are evaluated. -/
theorem spread_cases : ∀ (b0 b1 b2 b3 : Bool) (r : Fin 4) (q : Fin 8),
    ((((if b0 then 1#32 else 0#32) ||| (if b1 then 256#32 else 0#32) ||| (if b2 then 65536#32 else 0#32)
      ||| (if b3 then 16777216#32 else 0#32)) * 255#32).getLsbD (8 * r.val + q.val))
      = (match r with | 0 => b0 | 1 => b1 | 2 => b2 | 3 => b3) := by decide

theorem ones_cases : ∀ p : Fin 32, (16843009#32).getLsbD p.val = decide (p.val % 8 = 0) := by decide

theorem flag_cases : ∀ (b0 b1 b2 b3 : Bool) (p : Fin 32),
    ((if b0 then 1#32 else 0#32) ||| (if b1 then 256#32 else 0#32) ||| (if b2 then 65536#32 else 0#32)
      ||| (if b3 then 16777216#32 else 0#32)).getLsbD p.val
      = (if p.val = 0 then b0 else if p.val = 8 then b1 else if p.val = 16 then b2 else if p.val = 24 then b3 else false) := by decide

theorem spread (w : BitVec 32) (r : Fin 4) (q : Fin 8) :
    (((w.sshiftRight 7) &&& 16843009#32) * 255#32).getLsbD (8 * r.val + q.val) = w.getLsbD (8 * r.val + 7) := by
  have e : (w.sshiftRight 7) &&& 16843009#32
      = ((if w.getLsbD 7 then 1#32 else 0#32) ||| (if w.getLsbD 15 then 256#32 else 0#32) ||| (if w.getLsbD 23 then 65536#32 else 0#32)
      ||| (if w.getLsbD 31 then 16777216#32 else 0#32)) := by
    apply BitVec.eq_of_getLsbD_eq
    intro p hp
    rw [flag_cases _ _ _ _ ⟨p, hp⟩, BitVec.getLsbD_and, ones_cases ⟨p, hp⟩, BitVec.getLsbD_sshiftRight]
    by_cases h0 : p = 0
    · subst h0; simp
    by_cases h1 : p = 8
    · subst h1; simp
    by_cases h2 : p = 16
    · subst h2; simp
    by_cases h3 : p = 24
    · subst h3; simp
    · have : ¬ p % 8 = 0 := by omega
      simp [h0, h1, h2, h3, this]
  rw [e, spread_cases]
  match r with
  | 0 => rfl
  | 1 => rfl
  | 2 => rfl
  | 3 => rfl

/-- The choice between the halves, taken on words, is `pick` on every byte. -/
theorem pick_bytes (lo dx c : IVec Tile 8) (h : Tile.Bitcasts 8 Words 32) (h' : Words.Bitcasts 32 Tile 8) (a : Fin 32) (l : Fin 128) :
    bitcast Tile 8 (xori (bitcast Words 32 lo h) (andi (bitcast Words 32 dx h)
        (muli (andi (shrsi (bitcast Words 32 c h) (broadcast Words 7#32)) (broadcast Words 16843009#32)) (broadcast Words 255#32)))) h' (ix2 a l)
      = pick (lo (ix2 a l)) (dx (ix2 a l)) (c (ix2 a l)) := by
  apply BitVec.eq_of_getLsbD_eq
  intro q hq
  rw [back_bit _ h' a l q hq]
  have hs : ∀ w : BitVec 32, IntOp.shrsi .vector w 7#32 = w.sshiftRight 7 := fun w => by
    unfold IntOp.shrsi; rw [if_pos (by decide)]; rfl
  show (bitcast Words 32 lo h _ ^^^ (bitcast Words 32 dx h _ &&& ((IntOp.shrsi .vector (bitcast Words 32 c h _) 7#32 &&& 16843009#32) * 255#32))).getLsbD _ = _
  rw [hs, BitVec.getLsbD_xor, BitVec.getLsbD_and, word_bit lo h a l q hq, word_bit dx h a l q hq,
    spread _ ⟨a.val % 4, by omega⟩ ⟨q, hq⟩, word_bit c h a l 7 (by omega)]
  unfold pick
  rw [BitVec.getLsbD_xor, BitVec.getLsbD_and]
  by_cases hc : (c (ix2 a l)).getLsbD 7 = true
  · rw [if_pos hc, hc]
    have : ∀ i : Fin 8, (255#8).getLsbD i = true := by decide
    rw [this ⟨q, hq⟩]
  · have hf : (c (ix2 a l)).getLsbD 7 = false := by simpa using hc
    rw [if_neg hc, hf]
    simp

/-- The place of a code in a half of the codebook: its low seven bits. -/
def place (c : BitVec 8) : Fin 128 := ⟨c.toNat % 128, Nat.mod_lt _ (by decide)⟩

theorem place_word : ∀ c : BitVec 8, ((c &&& 127#8).signExtend 32).toNat % 128 = c.toNat % 128 := by decide

theorem trunc_ext : ∀ b : BitVec 8, (b.signExtend 32).setWidth 8 = b := by decide

/-- The lane gather at the low seven bits of the codes reads each row of the table at the codes' places. -/
theorem gather_bytes (T c : IVec Tile 8) (idx : IVec Tile 8) (hidx : ∀ a l, idx (ix2 a l) = c (ix2 a l) &&& 127#8)
    (hw : 8 < 32) (h1 : Tile.ShapeCasts Tile1) (h2 : Tile1.ShapeCasts Tile) (a : Fin 32) (l : Fin 128) :
    trunci 8 (dynamicGather 1 (extsi 32 T hw) (shapeCast Tile (shapeCast Tile1 (extsi 32 idx hw) h1) h2)) hw (ix2 a l)
      = T (ix2 a (place (c (ix2 a l)))) := by
  rw [shapeCast_shapeCast]
  show ((T _).signExtend 32).setWidth 8 = _
  rw [trunc_ext]
  congr 1
  funext b
  match b with
  | ⟨0, _⟩ => rfl
  | ⟨1, _⟩ =>
    apply Fin.ext
    show ((idx (ix2 a l)).signExtend 32).toNat % 128 = (c (ix2 a l)).toNat % 128
    rw [hidx, place_word]

variable {F : FTy → Type} [FloatOps F]

/-- One codebook's part of a tile, as the kernel computes it on words from the codes `c` and the two table rows. -/
def plane (c T0 T1 : IVec Tile 8) : FVec F Tile .bf16 :=
  extf .bf16 (bitcastToFloat (F := F) .fp8e4m3 (bitcast Tile 8 (xori
      (bitcast Words 32 (trunci 8 (dynamicGather 1 (extsi 32 T0 (by decide)) (shapeCast Tile (shapeCast Tile1 (extsi 32
        (bitcast Tile 8 (andi (bitcast Words 32 c (by decide)) (broadcast Words 2139062143#32)) (by decide)) (by decide)) (by decide)) (by decide))) (by decide)) (by decide))
      (andi (bitcast Words 32 (trunci 8 (dynamicGather 1 (extsi 32 T1 (by decide)) (shapeCast Tile (shapeCast Tile1 (extsi 32
        (bitcast Tile 8 (andi (bitcast Words 32 c (by decide)) (broadcast Words 2139062143#32)) (by decide)) (by decide)) (by decide)) (by decide))) (by decide)) (by decide))
        (muli (andi (shrsi (bitcast Words 32 c (by decide)) (broadcast Words 7#32)) (broadcast Words 16843009#32)) (broadcast Words 255#32)))) (by decide))) (by decide)

/-- What a code means: the byte it picks out of its row of the two tables, read as an eight-bit float and widened. -/
def value (lo dx c : BitVec 8) : F .bf16 := FloatOps.extf .bf16 (by decide) (FloatOps.ofBits .fp8e4m3 (pick lo dx c))

/-- THE DECODING OF A TILE, element by element. -/
theorem plane_apply (c T0 T1 : IVec Tile 8) (a : Fin 32) (l : Fin 128) :
    plane (F := F) c T0 T1 (ix2 a l)
      = value (T0 (ix2 a (place (c (ix2 a l))))) (T1 (ix2 a (place (c (ix2 a l))))) (c (ix2 a l)) := by
  unfold plane value
  show FloatOps.extf .bf16 _ (FloatOps.ofBits .fp8e4m3 (bitcast Tile 8 _ _ (ix2 a l))) = _
  rw [pick_bytes, gather_bytes T0 c _ (index_bytes c _ _) _ _ _, gather_bytes T1 c _ (index_bytes c _ _) _ _ _]

end Cert.Decode

end
-- ==== Proof.Tile.lean ====
/-
  The decoded weight block of one grid point, as a function of the block of codes and of the table.

  The kernel fills the block tile by tile: tile `(t, oc)` of codes (rows `32 oc …`, lanes `128 t …`) gives eight
  32 × 128 tiles of weights, the `j`th at rows `32 oc …` and columns `1024 t + 128 j …`. `weight` says what element
  `(o, k)` of the whole block is; `tile_apply` says every one of those tiles is `weight` read through its rectangle.
-/
module

public import proofs.«01_k».proof.Proof.Decode
public import Idealize.ShloMosaic.Lib.Writes

@[expose] public section

noncomputable section

namespace Cert.Decode

open Idealize.ShloMosaic ValueIdx

abbrev Codes : Shape := ⟨3, ![2, 256, 896]⟩
abbrev Table : Shape := ⟨4, ![2, 16, 32, 128]⟩
abbrev Block : Shape := ⟨2, ![256, 7168]⟩

variable {F : FTy → Type} [FloatOps F]

/-- The group of codes column `k` of the block belongs to: lane `k % 128` of the `k / 1024`th tile of lanes. -/
def group (k : Fin 7168) : Fin 896 := ⟨128 * (k.val / 1024) + k.val % 128, by omega⟩
/-- The component of its group column `k` is. -/
def comp (k : Fin 7168) : Fin 8 := ⟨k.val % 1024 / 128, by omega⟩

/-- Codebook `b`'s part of element `(o, k)` of the block. -/
def part (codes : IVec Codes 8) (tab : IVec Table 8) (b : Fin 2) (o : Fin 256) (k : Fin 7168) : F .bf16 :=
  let c := codes (ix3 b o (group k))
  let r : Fin 32 := ⟨o.val % 32, Nat.mod_lt _ (by decide)⟩
  value (tab (ix4 b (⟨(comp k).val, by omega⟩ : Fin 16) r (place c)))
    (tab (ix4 b (⟨8 + (comp k).val, by omega⟩ : Fin 16) r (place c))) c

/-- The weight block: the sum of the two codebooks' parts. -/
def weight (codes : IVec Codes 8) (tab : IVec Table 8) : FVec F Block .bf16 := fun y =>
  FloatOps.addf (part codes tab 0 (y 0) (y 1)) (part codes tab 1 (y 0) (y 1))

variable {sig : RefSig} {κ : Kind} {sp sp' : Space}

/-- A codebook's part at an element of tile `(t, oc)`, component `j`. -/
theorem part_at (codes : IVec Codes 8) (tab : IVec Table 8) (b : Fin 2) (oc t : ℕ) (hoc : oc < 8) (ht : t < 7) (j : Fin 8)
    (a : Fin 32) (l : Fin 128) (o : Fin 256) (k : Fin 7168) (ho : o.val = 32 * oc + a.val)
    (hk : k.val = 1024 * t + 128 * j.val + l.val) :
    part (F := F) codes tab b o k
      = value (tab (ix4 b (⟨j.val, by omega⟩ : Fin 16) a (place (codes (ix3 b ⟨32 * oc + a.val, by omega⟩ ⟨128 * t + l.val, by omega⟩)))))
          (tab (ix4 b (⟨8 + j.val, by omega⟩ : Fin 16) a (place (codes (ix3 b ⟨32 * oc + a.val, by omega⟩ ⟨128 * t + l.val, by omega⟩)))))
          (codes (ix3 b ⟨32 * oc + a.val, by omega⟩ ⟨128 * t + l.val, by omega⟩)) := by
  have eo : o = ⟨32 * oc + a.val, by omega⟩ := Fin.ext ho
  have eg : group k = ⟨128 * t + l.val, by omega⟩ := Fin.ext (by
    show 128 * (k.val / 1024) + k.val % 128 = 128 * t + l.val; omega)
  have ec : comp k = j := Fin.ext (by show k.val % 1024 / 128 = j.val; omega)
  have er : (⟨(32 * oc + a.val) % 32, Nat.mod_lt _ (by decide)⟩ : Fin 32) = a := Fin.ext (by show (32 * oc + a.val) % 32 = a.val; omega)
  unfold part
  simp only [eg, ec, ho, er]
  rw [← eo]

/-- A tile of codes read out of the block of codes. -/
theorem codes_tile (v : View sig κ sp Codes .i8) (X : v.ty.Contents (Elt F)) (off : Fin 3 → ℕ) (b : Fin 2) (oc t : ℕ)
    (hoff : off = ![b.val, 32 * oc, 128 * t]) (hoc : oc < 8) (ht : t < 7)
    (inb : ∀ a, off a + (⟨3, ![1, 32, 128]⟩ : Shape).size a ≤ Codes.size a)
    (h : (⟨3, ![1, 32, 128]⟩ : Shape).ShapeCasts Tile) (a : Fin 32) (l : Fin 128) :
    shapeCast Tile (v.readAt (Elt F) (Rect.unit (s := Codes) off (⟨3, ![1, 32, 128]⟩ : Shape).size inb).toLoadRect X) h (ix2 a l)
      = v.read (Elt F) X (ix3 b ⟨32 * oc + a.val, by omega⟩ ⟨128 * t + l.val, by omega⟩) := by
  subst hoff
  rw [shapeCast_apply _ h (ix2 a l) (ix3 (0 : Fin 1) a l) (by
    rw [Shape.rowMajor_val_three, Shape.rowMajor_val_two]; simp)]
  show v.read (Elt F) X _ = _
  congr 1
  funext d
  match d with
  | ⟨0, _⟩ => apply Fin.ext; show b.val + 1 * 0 = b.val; omega
  | ⟨1, _⟩ => apply Fin.ext; show 32 * oc + 1 * a.val = 32 * oc + a.val; omega
  | ⟨2, _⟩ => apply Fin.ext; show 128 * t + 1 * l.val = 128 * t + l.val; omega

/-- A tile of the table. -/
theorem table_tile (v : View sig κ sp Table .i8) (X : v.ty.Contents (Elt F)) (off : Fin 4 → ℕ) (b : Fin 2) (q : Fin 16)
    (hoff : off = ![b.val, q.val, 0, 0])
    (inb : ∀ a, off a + (⟨4, ![1, 1, 32, 128]⟩ : Shape).size a ≤ Table.size a)
    (h : (⟨4, ![1, 1, 32, 128]⟩ : Shape).ShapeCasts Tile) (a : Fin 32) (l : Fin 128) :
    shapeCast Tile (v.readAt (Elt F) (Rect.unit (s := Table) off (⟨4, ![1, 1, 32, 128]⟩ : Shape).size inb).toLoadRect X) h (ix2 a l)
      = v.read (Elt F) X (ix4 b q a l) := by
  subst hoff
  rw [shapeCast_apply _ h (ix2 a l) (ix4 (0 : Fin 1) (0 : Fin 1) a l) (by
    rw [Shape.rowMajor_val_four, Shape.rowMajor_val_two]; simp)]
  show v.read (Elt F) X _ = _
  congr 1
  funext d
  match d with
  | ⟨0, _⟩ => apply Fin.ext; show b.val + 1 * 0 = b.val; omega
  | ⟨1, _⟩ => apply Fin.ext; show q.val + 1 * 0 = q.val; omega
  | ⟨2, _⟩ => apply Fin.ext; show 0 + 1 * a.val = a.val; omega
  | ⟨3, _⟩ => apply Fin.ext; show 0 + 1 * l.val = l.val; omega

theorem casts3 : (⟨3, ![1, 32, 128]⟩ : Shape).ShapeCasts Tile := by decide
theorem casts4 : (⟨4, ![1, 1, 32, 128]⟩ : Shape).ShapeCasts Tile := by decide

/-- Tile `(t, oc)`'s `j`th tile of weights, as the kernel computes it from what it reads. -/
def tile (v : View sig κ sp Codes .i8) (X : v.ty.Contents (Elt F)) (u : View sig κ sp' Table .i8) (Y : u.ty.Contents (Elt F))
    (off0 off1 : Fin 3 → ℕ)
    (inb0 : ∀ a, off0 a + (⟨3, ![1, 32, 128]⟩ : Shape).size a ≤ Codes.size a)
    (inb1 : ∀ a, off1 a + (⟨3, ![1, 32, 128]⟩ : Shape).size a ≤ Codes.size a)
    (q00 q01 q10 q11 : Fin 4 → ℕ)
    (i00 : ∀ a, q00 a + (⟨4, ![1, 1, 32, 128]⟩ : Shape).size a ≤ Table.size a)
    (i01 : ∀ a, q01 a + (⟨4, ![1, 1, 32, 128]⟩ : Shape).size a ≤ Table.size a)
    (i10 : ∀ a, q10 a + (⟨4, ![1, 1, 32, 128]⟩ : Shape).size a ≤ Table.size a)
    (i11 : ∀ a, q11 a + (⟨4, ![1, 1, 32, 128]⟩ : Shape).size a ≤ Table.size a) : FVec F Tile .bf16 :=
  addf
    (plane (shapeCast Tile (v.readAt (Elt F) (Rect.unit (s := Codes) off0 (⟨3, ![1, 32, 128]⟩ : Shape).size inb0).toLoadRect X) casts3)
      (shapeCast Tile (u.readAt (Elt F) (Rect.unit (s := Table) q00 (⟨4, ![1, 1, 32, 128]⟩ : Shape).size i00).toLoadRect Y) casts4)
      (shapeCast Tile (u.readAt (Elt F) (Rect.unit (s := Table) q01 (⟨4, ![1, 1, 32, 128]⟩ : Shape).size i01).toLoadRect Y) casts4))
    (plane (shapeCast Tile (v.readAt (Elt F) (Rect.unit (s := Codes) off1 (⟨3, ![1, 32, 128]⟩ : Shape).size inb1).toLoadRect X) casts3)
      (shapeCast Tile (u.readAt (Elt F) (Rect.unit (s := Table) q10 (⟨4, ![1, 1, 32, 128]⟩ : Shape).size i10).toLoadRect Y) casts4)
      (shapeCast Tile (u.readAt (Elt F) (Rect.unit (s := Table) q11 (⟨4, ![1, 1, 32, 128]⟩ : Shape).size i11).toLoadRect Y) casts4))

/-- EVERY TILE IS THE WEIGHT BLOCK THROUGH ITS RECTANGLE. -/
theorem tile_apply (v : View sig κ sp Codes .i8) (X : v.ty.Contents (Elt F)) (u : View sig κ sp' Table .i8) (Y : u.ty.Contents (Elt F))
    (oc t : ℕ) (hoc : oc < 8) (ht : t < 7) (j : Fin 8)
    (off0 off1 : Fin 3 → ℕ) (h0 : off0 = ![0, 32 * oc, 128 * t]) (h1 : off1 = ![1, 32 * oc, 128 * t])
    (inb0) (inb1) (q00 q01 q10 q11 : Fin 4 → ℕ)
    (e00 : q00 = ![0, j.val, 0, 0]) (e01 : q01 = ![0, 8 + j.val, 0, 0])
    (e10 : q10 = ![1, j.val, 0, 0]) (e11 : q11 = ![1, 8 + j.val, 0, 0]) (i00) (i01) (i10) (i11)
    (offw : Fin 2 → ℕ) (hw : offw = ![32 * oc, 1024 * t + 128 * j.val]) (inbw) (x : Tile.Idx) :
    tile v X u Y off0 off1 inb0 inb1 q00 q01 q10 q11 i00 i01 i10 i11 x
      = weight (v.read (Elt F) X) (u.read (Elt F) Y) ((Rect.unit (s := Block) offw Tile.size inbw).emb x) := by
  subst hw
  obtain ⟨a, l, rfl⟩ : ∃ (a : Fin 32) (l : Fin 128), x = ix2 a l := ⟨x 0, x 1, eq_ix2 x⟩
  have eo : (((Rect.unit (s := Block) ![32 * oc, 1024 * t + 128 * j.val] Tile.size inbw).emb (ix2 a l) 0 : Fin 256) : ℕ) = 32 * oc + a.val := by
    show 32 * oc + 1 * a.val = _; omega
  have ek : (((Rect.unit (s := Block) ![32 * oc, 1024 * t + 128 * j.val] Tile.size inbw).emb (ix2 a l) 1 : Fin 7168) : ℕ)
      = 1024 * t + 128 * j.val + l.val := by
    show 1024 * t + 128 * j.val + 1 * l.val = _; omega
  refine congrArg₂ FloatOps.addf ?_ ?_
  · refine Eq.trans ?_ (part_at _ _ 0 oc t hoc ht j a l _ _ eo ek).symm
    rw [plane_apply, codes_tile v X off0 0 oc t h0 hoc ht,
      table_tile u Y q00 0 ⟨j.val, by omega⟩ e00, table_tile u Y q01 0 ⟨8 + j.val, by omega⟩ e01]
  · refine Eq.trans ?_ (part_at _ _ 1 oc t hoc ht j a l _ _ eo ek).symm
    rw [plane_apply, codes_tile v X off1 1 oc t h1 hoc ht,
      table_tile u Y q10 1 ⟨j.val, by omega⟩ e10, table_tile u Y q11 1 ⟨8 + j.val, by omega⟩ e11]

/-- The same of what the kernel stores, given its two parts as they stand. -/
theorem piece_apply (v : View sig κ sp Codes .i8) (X : v.ty.Contents (Elt F)) (u : View sig κ sp' Table .i8) (Y : u.ty.Contents (Elt F))
    {p0 p1 : FVec F Tile .bf16} {off0 off1 : Fin 3 → ℕ} {inb0} {inb1} {q00 q01 q10 q11 : Fin 4 → ℕ} {i00} {i01} {i10} {i11}
    (hp0 : p0 = plane (shapeCast Tile (v.readAt (Elt F) (Rect.unit (s := Codes) off0 (⟨3, ![1, 32, 128]⟩ : Shape).size inb0).toLoadRect X) casts3)
      (shapeCast Tile (u.readAt (Elt F) (Rect.unit (s := Table) q00 (⟨4, ![1, 1, 32, 128]⟩ : Shape).size i00).toLoadRect Y) casts4)
      (shapeCast Tile (u.readAt (Elt F) (Rect.unit (s := Table) q01 (⟨4, ![1, 1, 32, 128]⟩ : Shape).size i01).toLoadRect Y) casts4))
    (hp1 : p1 = plane (shapeCast Tile (v.readAt (Elt F) (Rect.unit (s := Codes) off1 (⟨3, ![1, 32, 128]⟩ : Shape).size inb1).toLoadRect X) casts3)
      (shapeCast Tile (u.readAt (Elt F) (Rect.unit (s := Table) q10 (⟨4, ![1, 1, 32, 128]⟩ : Shape).size i10).toLoadRect Y) casts4)
      (shapeCast Tile (u.readAt (Elt F) (Rect.unit (s := Table) q11 (⟨4, ![1, 1, 32, 128]⟩ : Shape).size i11).toLoadRect Y) casts4))
    (oc t : ℕ) (hoc : oc < 8) (ht : t < 7) (j : Fin 8)
    (h0 : off0 = ![0, 32 * oc, 128 * t]) (h1 : off1 = ![1, 32 * oc, 128 * t])
    (e00 : q00 = ![0, j.val, 0, 0]) (e01 : q01 = ![0, 8 + j.val, 0, 0])
    (e10 : q10 = ![1, j.val, 0, 0]) (e11 : q11 = ![1, 8 + j.val, 0, 0])
    {offw : Fin 2 → ℕ} (hw : offw = ![32 * oc, 1024 * t + 128 * j.val]) {inbw} (h : Tile.ShapeCasts Tile) (x : Tile.Idx) :
    shapeCast Tile (addf p0 p1) h x
      = weight (v.read (Elt F) X) (u.read (Elt F) Y) ((Rect.unit (s := Block) offw Tile.size inbw).emb x) := by
  subst hp0 hp1
  rw [shapeCast_self]
  exact tile_apply v X u Y oc t hoc ht j off0 off1 h0 h1 inb0 inb1 q00 q01 q10 q11 e00 e01 e10 e11 i00 i01 i10 i11 offw hw inbw x

end Cert.Decode

namespace Idealize.ShloMosaic.View

variable {sig : RefSig} {κ : Kind} {sp : Space} {s : Shape} {e : EltTy} {Val : EltTy → Type}

/-- After writes whose payloads all agree with `G`, an element reads `G` if some write covers it or it read `G`
    before. -/
theorem read_writes_agree (v : View sig κ sp s e) (f : v.ty.Contents Val) (G : s.Idx → Val e) (y : s.Idx) :
    ∀ L : List (Piece Val s e), (∀ p ∈ L, ∀ x : p.1.shape.Idx, p.2 x = G (p.1.emb x)) →
      ((∃ p ∈ L, y ∈ p.1.set) ∨ v.read Val f y = G y) → v.read Val (v.writes Val f L) y = G y
  | [], _, h => by
    rcases h with ⟨_, hm, _⟩ | h
    · exact absurd hm List.not_mem_nil
    · exact h
  | p :: L, hG, h => by
    by_cases hy : y ∈ p.1.set
    · obtain ⟨x, rfl⟩ : ∃ x, p.1.emb x = y := p.1.exists_idx_of_mem hy
      rw [read_writes_cons_emb]
      exact hG p List.mem_cons_self x
    · have hy' : y ∉ Finset.univ.map p.1.emb := by rwa [Rect.map_emb_univ]
      rw [writes_cons, read_slice_write_of_not_mem p.1 _ _ _ hy']
      refine read_writes_agree v f G y L (fun q hq => hG q (List.mem_cons_of_mem _ hq)) ?_
      rcases h with ⟨q, hq, hyq⟩ | h
      · rcases List.mem_cons.mp hq with rfl | hq'
        · exact absurd hyq hy
        · exact Or.inl ⟨q, hq', hyq⟩
      · exact Or.inr h

end Idealize.ShloMosaic.View

end
-- ==== Proof.Stored.lean ====
/-
  The tiles the kernel stores, in the order it stores them: the `n`th is tile `(n / 64, n / 8 % 8)`, component `n % 8`.
  A list of stores built in that order agrees with the weight block store by store.
-/
module

public import proofs.«01_k».proof.Proof.Tile

@[expose] public section

noncomputable section

namespace Cert.Decode

open Idealize.ShloMosaic ValueIdx

variable {F : FTy → Type} [FloatOps F]
variable {sig : RefSig} {κ : Kind} {sp sp' : Space}

theorem inb_codes (b : Fin 2) (n : ℕ) (hn : n < 448) :
    ∀ a, (![b.val, 32 * (n / 8 % 8), 128 * (n / 64)] : Fin 3 → ℕ) a + (⟨3, ![1, 32, 128]⟩ : Shape).size a ≤ Codes.size a
  | 0 => by show b.val + 1 ≤ 2; omega
  | 1 => by show 32 * (n / 8 % 8) + 32 ≤ 256; omega
  | 2 => by show 128 * (n / 64) + 128 ≤ 896; omega

theorem inb_table (b : Fin 2) (r : Fin 16) :
    ∀ a, (![b.val, r.val, 0, 0] : Fin 4 → ℕ) a + (⟨4, ![1, 1, 32, 128]⟩ : Shape).size a ≤ Table.size a
  | 0 => by show b.val + 1 ≤ 2; omega
  | 1 => by show r.val + 1 ≤ 16; omega
  | 2 => by show 0 + 32 ≤ 32; omega
  | 3 => by show 0 + 128 ≤ 128; omega

/-- What the kernel computes for its `n`th tile. -/
abbrev nth (v : View sig κ sp Codes .i8) (X : v.ty.Contents (Elt F)) (u : View sig κ sp' Table .i8) (Y : u.ty.Contents (Elt F))
    (n : ℕ) (hn : n < 448) : FVec F Tile .bf16 :=
  tile v X u Y ![0, 32 * (n / 8 % 8), 128 * (n / 64)] ![1, 32 * (n / 8 % 8), 128 * (n / 64)] (inb_codes 0 n hn) (inb_codes 1 n hn)
    ![0, n % 8, 0, 0] ![0, 8 + n % 8, 0, 0] ![1, n % 8, 0, 0] ![1, 8 + n % 8, 0, 0]
    (inb_table 0 ⟨n % 8, by omega⟩) (inb_table 0 ⟨8 + n % 8, by omega⟩) (inb_table 1 ⟨n % 8, by omega⟩) (inb_table 1 ⟨8 + n % 8, by omega⟩)

/-- A list of stores each of which is the weight block read through its rectangle. The number only counts them. -/
def Agrees (v : View sig κ sp Codes .i8) (X : v.ty.Contents (Elt F)) (u : View sig κ sp' Table .i8) (Y : u.ty.Contents (Elt F))
    (_ : ℕ) (L : List (View.Piece (Elt F) Block .bf16)) : Prop :=
  ∀ p ∈ L, ∀ x : p.1.shape.Idx, p.2 x = weight (v.read (Elt F) X) (u.read (Elt F) Y) (p.1.emb x)

theorem Agrees.nil (v : View sig κ sp Codes .i8) (X : v.ty.Contents (Elt F)) (u : View sig κ sp' Table .i8) (Y : u.ty.Contents (Elt F)) :
    Agrees v X u Y 0 [] := fun _ h => absurd h List.not_mem_nil

theorem Agrees.cons {v : View sig κ sp Codes .i8} {X : v.ty.Contents (Elt F)} {u : View sig κ sp' Table .i8} {Y : u.ty.Contents (Elt F)}
    {n : ℕ} {L : List (View.Piece (Elt F) Block .bf16)} (hn : n < 448) {offw : Fin 2 → ℕ} {inbw} {val : Tile.Idx → F .bf16}
    (hw : offw = ![32 * (n / 8 % 8), 1024 * (n / 64) + 128 * (n % 8)]) (h : Tile.ShapeCasts Tile)
    (hv : val = shapeCast Tile (nth v X u Y n hn) h) (hL : Agrees v X u Y n L) :
    Agrees v X u Y (n + 1) (⟨Rect.unit (s := Block) offw Tile.size inbw, val⟩ :: L) := by
  intro p hp x
  rcases List.mem_cons.mp hp with rfl | hp
  · subst hv
    show shapeCast Tile (nth v X u Y n hn) h x = _
    rw [shapeCast_self]
    exact tile_apply v X u Y (n / 8 % 8) (n / 64) (Nat.mod_lt _ (by decide)) (by omega) ⟨n % 8, by omega⟩ _ _ rfl rfl _ _ _ _ _ _
      rfl rfl rfl rfl _ _ _ _ offw hw inbw x
  · exact hL p hp x

end Cert.Decode

end
-- ==== Proof.TilesA.lean ====
/-
  Case A of the body (the first grid point, which also builds the table): every one of the 448 tiles it stores into its weight
  scratch is the weight block read through the tile's rectangle.
-/
module

public import proofs.«01_k».proof.Proof.Gen.KernelIdeal.Frame.RunA
public import proofs.«01_k».proof.Proof.Stored

@[expose] public section

set_option maxRecDepth 16384

noncomputable section

namespace Cert.KernelIdeal.Tiles

open Idealize.ShloMosaic Idealize.ShloMosaic.TcCoe
open Cert.KernelIdeal Cert.KernelIdeal.Gen

variable {F : FTy → Type} [FloatOps F]

set_option maxHeartbeats 16000000 in
theorem agrees_A (c : Dev nD) (arg2 : Memref sig .tc .vmem S2x256x896 .i8) (harg2 : arg2.IsWhole)
    (arg3 : Memref sig .tc .vmem S2x8x256 .i8) (harg3 : arg3.IsWhole) (arg6 : Memref sig .tc .vmem S2x16x32x128 .i8)
    (x1 : Vec F S2x256x896 .i8) (x2 : Vec F S2x8x256 .i8) :
    Cert.Decode.Agrees arg2.view (harg2.unread x1) arg6.view
      (arg6.view.writes (Elt F) arg6.view.junk (kernelRun0_A.sl.HS0_32 c arg3 harg3 x2)) 448
      (kernelRun0_A.sl.HS1_448 c arg2 harg2 arg3 harg3 arg6 x1 x2) := by
  unfold kernelRun0_A.sl.HS1_448
  iterate 448
    refine Cert.Decode.Agrees.cons (by decide) rfl shapeCasts_S32x128_S32x128 (by
      dsimp only [Cert.Decode.nth, Nat.reduceMul, Nat.reduceDiv, Nat.reduceMod, Nat.reduceAdd]
      rfl) ?_
  exact Cert.Decode.Agrees.nil (F := F) _ _ _ _

end Cert.KernelIdeal.Tiles

end
-- ==== Proof.TilesB.lean ====
/-
  Case B of the body (every grid point after the first, which finds the table built): every one of the 448 tiles it stores into its weight
  scratch is the weight block read through the tile's rectangle.
-/
module

public import proofs.«01_k».proof.Proof.Gen.KernelIdeal.Frame.RunB
public import proofs.«01_k».proof.Proof.Stored

@[expose] public section

set_option maxRecDepth 16384

noncomputable section

namespace Cert.KernelIdeal.Tiles

open Idealize.ShloMosaic Idealize.ShloMosaic.TcCoe
open Cert.KernelIdeal Cert.KernelIdeal.Gen

variable {F : FTy → Type} [FloatOps F]

set_option maxHeartbeats 16000000 in
theorem agrees_B (c : Dev nD) (arg2 : Memref sig .tc .vmem S2x256x896 .i8) (harg2 : arg2.IsWhole)
    (arg6 : Memref sig .tc .vmem S2x16x32x128 .i8) (harg6 : arg6.IsWhole)
    (x1 : Vec F S2x256x896 .i8) (xs0 : Vec F S2x16x32x128 .i8) :
    Cert.Decode.Agrees arg2.view (harg2.unread x1) arg6.view (harg6.unread xs0) 448
      (kernelRun0_B.sl.HS1_448 c arg2 harg2 arg6 harg6 x1 xs0) := by
  unfold kernelRun0_B.sl.HS1_448
  iterate 448
    refine Cert.Decode.Agrees.cons (by decide) rfl shapeCasts_S32x128_S32x128 (by
      dsimp only [Cert.Decode.nth, Nat.reduceMul, Nat.reduceDiv, Nat.reduceMod, Nat.reduceAdd]
      rfl) ?_
  exact Cert.Decode.Agrees.nil (F := F) _ _ _ _

end Cert.KernelIdeal.Tiles

end
-- ==== Proof.Table.lean ====
/-
  The table the kernel builds from the codebook at the first grid point: for each codebook and each component, the row of the
  low 128 entries, and the difference (xor) of the two halves, each repeated over 32 rows.
-/
module

public import proofs.«01_k».proof.Proof.Tile

@[expose] public section

noncomputable section

namespace Cert.Decode

open Idealize.ShloMosaic ValueIdx

abbrev Book : Shape := ⟨3, ![2, 8, 256]⟩
abbrev Book1 : Shape := ⟨3, ![1, 8, 256]⟩
abbrev Rows : Shape := ⟨2, ![8, 256]⟩
abbrev Row : Shape := ⟨2, ![1, 128]⟩
abbrev Tile4 : Shape := ⟨4, ![1, 1, 32, 128]⟩

variable {F : FTy → Type} [FloatOps F]
variable {sig : RefSig} {κ : Kind} {sp sp' : Space}

/-- Xor of words is xor of their bytes. -/
theorem xor_bytes (x y : IVec Tile 8) (h : Tile.Bitcasts 8 Words 32) (h' : Words.Bitcasts 32 Tile 8) (a : Fin 32) (l : Fin 128) :
    bitcast Tile 8 (xori (bitcast Words 32 x h) (bitcast Words 32 y h)) h' (ix2 a l) = x (ix2 a l) ^^^ y (ix2 a l) := by
  apply BitVec.eq_of_getLsbD_eq
  intro q hq
  rw [back_bit _ h' a l q hq]
  show (bitcast Words 32 x h _ ^^^ bitcast Words 32 y h _).getLsbD _ = _
  rw [BitVec.getLsbD_xor, BitVec.getLsbD_xor, word_bit x h a l q hq, word_bit y h a l q hq]

/-- The table as a function of the codebook (component before entry). -/
def tableOf (cb : IVec Book 8) : IVec Table 8 := fun y =>
  let b : Fin 2 := y 0
  let r : Fin 16 := y 1
  let l : Fin 128 := y 3
  if h : r.val < 8 then cb (ix3 b ⟨r.val, h⟩ ⟨l.val, by omega⟩)
  else cb (ix3 b ⟨r.val - 8, by omega⟩ ⟨l.val, by omega⟩) ^^^ cb (ix3 b ⟨r.val - 8, by omega⟩ ⟨128 + l.val, by omega⟩)

theorem tableOf_lo (cb : IVec Book 8) (b : Fin 2) (j : Fin 8) (a : Fin 32) (l : Fin 128) :
    tableOf cb (ix4 b (⟨j.val, by omega⟩ : Fin 16) a l) = cb (ix3 b j ⟨l.val, by omega⟩) := by
  unfold tableOf
  exact dif_pos j.isLt

theorem tableOf_dx (cb : IVec Book 8) (b : Fin 2) (j : Fin 8) (a : Fin 32) (l : Fin 128) :
    tableOf cb (ix4 b (⟨8 + j.val, by omega⟩ : Fin 16) a l)
      = cb (ix3 b j ⟨l.val, by omega⟩) ^^^ cb (ix3 b j ⟨128 + l.val, by omega⟩) := by
  unfold tableOf
  refine (dif_neg (show ¬ 8 + j.val < 8 by omega)).trans ?_
  have e : (⟨8 + j.val - 8, by omega⟩ : Fin 8) = j := Fin.ext (by show 8 + j.val - 8 = j.val; omega)
  show cb (ix3 b (⟨8 + j.val - 8, by omega⟩ : Fin 8) _) ^^^ cb (ix3 b (⟨8 + j.val - 8, by omega⟩ : Fin 8) _) = _
  rw [e]

theorem castsBook : Book1.ShapeCasts Rows := by decide
theorem castsRow : Row.ShapeCasts Row := by decide
theorem castsOut : Tile.ShapeCasts Tile4 := by decide
theorem bcastRow : Row.Broadcasts Tile := by decide
theorem toWords : Tile.Bitcasts 8 Words 32 := by decide
theorem toBytes : Words.Bitcasts 32 Tile 8 := by decide
theorem inbBook (n : ℕ) (hn : n < 16) : ∀ a, (![n / 8, 0, 0] : Fin 3 → ℕ) a + Book1.size a ≤ Book.size a
  | 0 => by show n / 8 + 1 ≤ 2; omega
  | 1 => by show 0 + 8 ≤ 8; omega
  | 2 => by show 0 + 256 ≤ 256; omega

theorem slicesRow (n k : ℕ) (hk : k < 2) : Rows.Slices ![n % 8, 128 * k] Row :=
  ⟨rfl, fun
    | 0 => by show n % 8 + 1 ≤ 8; omega
    | 1 => by show 128 * k + 128 ≤ 256; omega⟩

/-- Half `k` of row `n % 8` of codebook `n / 8`, repeated over 32 rows. -/
def half (v : View sig κ sp Book .i8) (X : v.ty.Contents (Elt F)) (n k : ℕ) (hn : n < 16) (hk : k < 2) : IVec Tile 8 :=
  broadcastTo Tile (shapeCast Row (extractStridedSlice Row ![n % 8, 128 * k]
    (shapeCast Rows (v.readAt (Elt F) (Rect.unit (s := Book) ![n / 8, 0, 0] Book1.size (inbBook n hn)).toLoadRect X) castsBook)
    (slicesRow n k hk)) castsRow) bcastRow

theorem half_apply (v : View sig κ sp Book .i8) (X : v.ty.Contents (Elt F)) (n k : ℕ) (hn : n < 16) (hk : k < 2) (a : Fin 32) (l : Fin 128) :
    half v X n k hn hk (ix2 a l) = v.read (Elt F) X (ix3 ⟨n / 8, by omega⟩ ⟨n % 8, by omega⟩ ⟨128 * k + l.val, by omega⟩) := by
  unfold half
  rw [broadcastTo_apply _ bcastRow (ix2 a l) (ix2 (0 : Fin 1) l) (fun
    | ⟨0, _⟩ => rfl
    | ⟨1, _⟩ => rfl), shapeCast_self,
    extractStridedSlice_apply _ _ _ (ix2 (0 : Fin 1) l) (ix2 (⟨n % 8, by omega⟩ : Fin 8) (⟨128 * k + l.val, by omega⟩ : Fin 256)) (fun
      | ⟨0, _⟩ => rfl
      | ⟨1, _⟩ => rfl),
    shapeCast_apply _ castsBook (ix2 (⟨n % 8, by omega⟩ : Fin 8) (⟨128 * k + l.val, by omega⟩ : Fin 256))
      (ix3 (0 : Fin 1) (⟨n % 8, by omega⟩ : Fin 8) (⟨128 * k + l.val, by omega⟩ : Fin 256)) (by
        rw [Shape.rowMajor_val_three, Shape.rowMajor_val_two]; simp)]
  show v.read (Elt F) X _ = _
  congr 1
  funext d
  match d with
  | ⟨0, _⟩ => apply Fin.ext; show n / 8 + 1 * 0 = n / 8; omega
  | ⟨1, _⟩ => apply Fin.ext; show 0 + 1 * (n % 8) = n % 8; omega
  | ⟨2, _⟩ => apply Fin.ext; show 0 + 1 * (128 * k + l.val) = 128 * k + l.val; omega

/-- The two rows the kernel stores for component `n % 8` of codebook `n / 8`. -/
def rowLo (v : View sig κ sp Book .i8) (X : v.ty.Contents (Elt F)) (n : ℕ) (hn : n < 16) : IVec Tile4 8 :=
  shapeCast Tile4 (half v X n 0 hn Nat.zero_lt_two) castsOut
def rowDx (v : View sig κ sp Book .i8) (X : v.ty.Contents (Elt F)) (n : ℕ) (hn : n < 16) : IVec Tile4 8 :=
  shapeCast Tile4 (bitcast Tile 8 (xori (bitcast Words 32 (half v X n 0 hn Nat.zero_lt_two) toWords)
    (bitcast Words 32 (half v X n 1 hn Nat.one_lt_two) toWords)) toBytes) castsOut

/-- A list of stores each of which is the table read through its rectangle. The number only counts them in pairs. -/
def TableAgrees (v : View sig κ sp Book .i8) (X : v.ty.Contents (Elt F)) (_ : ℕ) (L : List (View.Piece (Elt F) Table .i8)) : Prop :=
  ∀ p ∈ L, ∀ x : p.1.shape.Idx, p.2 x = tableOf (v.read (Elt F) X) (p.1.emb x)

theorem TableAgrees.nil (v : View sig κ sp Book .i8) (X : v.ty.Contents (Elt F)) : TableAgrees (F := F) v X 0 [] :=
  fun _ h => absurd h List.not_mem_nil

theorem emb_row (b r : ℕ) (inb : ∀ d, (![b, r, 0, 0] : Fin 4 → ℕ) d + Tile4.size d ≤ Table.size d) (hb : b < 2) (hr : r < 16) (a : Fin 32) (l : Fin 128) :
    (Rect.unit (s := Table) ![b, r, 0, 0] Tile4.size inb).emb (ix4 (0 : Fin 1) (0 : Fin 1) a l) = ix4 (⟨b, hb⟩ : Fin 2) (⟨r, hr⟩ : Fin 16) a l := by
  funext d
  match d with
  | ⟨0, _⟩ => apply Fin.ext; show b + 1 * 0 = b; omega
  | ⟨1, _⟩ => apply Fin.ext; show r + 1 * 0 = r; omega
  | ⟨2, _⟩ => apply Fin.ext; show 0 + 1 * a.val = a.val; omega
  | ⟨3, _⟩ => apply Fin.ext; show 0 + 1 * l.val = l.val; omega

theorem cast_out (x : IVec Tile 8) (a : Fin 32) (l : Fin 128) :
    shapeCast Tile4 x castsOut (ix4 (0 : Fin 1) (0 : Fin 1) a l) = x (ix2 a l) :=
  shapeCast_apply _ castsOut _ (ix2 a l) (by rw [Shape.rowMajor_val_four, Shape.rowMajor_val_two]; simp)

theorem idx_out (x : Tile4.Idx) : ∃ (a : Fin 32) (l : Fin 128), x = ix4 (0 : Fin 1) (0 : Fin 1) a l :=
  ⟨x 2, x 3, (eq_ix4 x).trans (by
    have h0 : x 0 = (0 : Fin 1) := Subsingleton.elim (α := Fin 1) _ _
    have h1 : x 1 = (0 : Fin 1) := Subsingleton.elim (α := Fin 1) _ _
    rw [h0, h1]; rfl)⟩

theorem TableAgrees.cons {v : View sig κ sp Book .i8} {X : v.ty.Contents (Elt F)} {n : ℕ} {L : List (View.Piece (Elt F) Table .i8)}
    (hn : n < 16) {o1 o2 : Fin 4 → ℕ} {i1 i2} {w1 w2 : Tile4.Idx → BitVec 8}
    (h1 : o1 = ![n / 8, n % 8, 0, 0]) (h2 : o2 = ![n / 8, 8 + n % 8, 0, 0])
    (e1 : w1 = rowLo v X n hn) (e2 : w2 = rowDx v X n hn) (hL : TableAgrees v X n L) :
    TableAgrees v X (n + 1) (⟨Rect.unit (s := Table) o2 Tile4.size i2, w2⟩ :: ⟨Rect.unit (s := Table) o1 Tile4.size i1, w1⟩ :: L) := by
  intro p hp x
  rcases List.mem_cons.mp hp with rfl | hp
  · subst e2 h2
    obtain ⟨a, l, rfl⟩ : ∃ (a : Fin 32) (l : Fin 128), x = ix4 (0 : Fin 1) (0 : Fin 1) a l := idx_out x
    show rowDx v X n hn (ix4 (0 : Fin 1) (0 : Fin 1) a l) = _
    refine Eq.trans ?_ (congrArg (tableOf (v.read (Elt F) X)) (emb_row (n / 8) (8 + n % 8) i2 (by omega) (by omega) a l)).symm
    refine Eq.trans ?_ (tableOf_dx (v.read (Elt F) X) ⟨n / 8, by omega⟩ ⟨n % 8, by omega⟩ a l).symm
    unfold rowDx
    rw [cast_out, xor_bytes, half_apply, half_apply]
    refine congrArg₂ (· ^^^ ·) (congrArg _ ?_) (congrArg _ ?_)
    · congr 1; apply Fin.ext; show 128 * 0 + l.val = l.val; omega
    · congr 1
  · rcases List.mem_cons.mp hp with rfl | hp
    · subst e1 h1
      obtain ⟨a, l, rfl⟩ : ∃ (a : Fin 32) (l : Fin 128), x = ix4 (0 : Fin 1) (0 : Fin 1) a l := idx_out x
      show rowLo v X n hn (ix4 (0 : Fin 1) (0 : Fin 1) a l) = _
      refine Eq.trans ?_ (congrArg (tableOf (v.read (Elt F) X)) (emb_row (n / 8) (n % 8) i1 (by omega) (by omega) a l)).symm
      refine Eq.trans ?_ (tableOf_lo (v.read (Elt F) X) ⟨n / 8, by omega⟩ ⟨n % 8, by omega⟩ a l).symm
      unfold rowLo
      rw [cast_out, half_apply]
      refine congrArg _ ?_
      congr 1; apply Fin.ext; show 128 * 0 + l.val = l.val; omega
    · exact hL p hp x

end Cert.Decode

end
-- ==== Proof.TableA.lean ====
/-
  Case A of the body: the 32 rows it stores into its table scratch are the table of the codebook block it reads.
-/
module

public import proofs.«01_k».proof.Proof.Gen.KernelIdeal.Frame.RunA
public import proofs.«01_k».proof.Proof.Table

@[expose] public section

set_option maxRecDepth 16384

noncomputable section

namespace Cert.KernelIdeal.Tiles

open Idealize.ShloMosaic Idealize.ShloMosaic.TcCoe
open Cert.KernelIdeal Cert.KernelIdeal.Gen

variable {F : FTy → Type} [FloatOps F]

set_option maxHeartbeats 1000000 in
theorem table_A (c : Dev nD) (arg3 : Memref sig .tc .vmem S2x8x256 .i8) (harg3 : arg3.IsWhole) (x2 : Vec F S2x8x256 .i8) :
    Cert.Decode.TableAgrees arg3.view (harg3.unread x2) 16 (kernelRun0_A.sl.HS0_32 c arg3 harg3 x2) := by
  unfold kernelRun0_A.sl.HS0_32
  iterate 16
    refine Cert.Decode.TableAgrees.cons (by decide) rfl rfl (by
      dsimp only [Cert.Decode.rowLo, Cert.Decode.half, Nat.reduceMul, Nat.reduceDiv, Nat.reduceMod, Nat.reduceAdd]
      rfl) (by
      dsimp only [Cert.Decode.rowDx, Cert.Decode.half, Nat.reduceMul, Nat.reduceDiv, Nat.reduceMod, Nat.reduceAdd]
      rfl) ?_
  exact Cert.Decode.TableAgrees.nil (F := F) _ _

end Cert.KernelIdeal.Tiles

end
-- ==== Proof.Blocks.lean ====
/-
  What a grid point leaves behind, in both cases of the body: the table of halves (`tableOf` of the codebook), and in the
  output's buffer the product of the point's rows with the weight block, scaled.
-/
module

public import proofs.«01_k».proof.Proof.Gen.KernelIdeal.Frame
public import proofs.«01_k».proof.Proof.TilesA
public import proofs.«01_k».proof.Proof.TilesB
public import proofs.«01_k».proof.Proof.TableA

@[expose] public section

set_option maxRecDepth 16384

noncomputable section

open Idealize Idealize.ShloMosaic Idealize.ShloMosaic.Tactic Cert.Decode
open Cert.KernelIdeal Cert.KernelIdeal.Gen

namespace Cert.KernelIdeal.Tiles

variable {F : FTy → Type} [FloatOps F]

/-- Columns `n` to `n + 1023` of a block. -/
abbrev cols (n : ℕ) (h : ∀ a, (![0, n] : Fin 2 → ℕ) a + S256x1024.size a ≤ S256x7168.size a) (X : Vec F S256x7168 .bf16) :
    Vec F S256x1024 .bf16 :=
  View.ld X (Rect.unit ![0, n] S256x1024.size h)

/-- The seven 1024-deep products of `x` with `w`, added up in order. -/
def accum (x w : Vec F S256x7168 .bf16) : Vec F S256x256 .f32 :=
  k0_pay2378
    (k0_pay2377 (cols 0 inb_S256x7168_S256x1024_0_0 x) (cols 0 inb_S256x7168_S256x1024_0_0 w))
    (cols 1024 inb_S256x7168_S256x1024_0_1024 x) (cols 1024 inb_S256x7168_S256x1024_0_1024 w)
    (cols 2048 inb_S256x7168_S256x1024_0_2048 x) (cols 2048 inb_S256x7168_S256x1024_0_2048 w)
    (cols 3072 inb_S256x7168_S256x1024_0_3072 x) (cols 3072 inb_S256x7168_S256x1024_0_3072 w)
    (cols 4096 inb_S256x7168_S256x1024_0_4096 x) (cols 4096 inb_S256x7168_S256x1024_0_4096 w)
    (cols 5120 inb_S256x7168_S256x1024_0_5120 x) (cols 5120 inb_S256x7168_S256x1024_0_5120 w)
    (cols 6144 inb_S256x7168_S256x1024_0_6144 x) (cols 6144 inb_S256x7168_S256x1024_0_6144 w)

/-- A whole argument held at `X`, read through a rectangle, is `X` read through it. -/
theorem read_whole {s : Shape} {e : EltTy} {κ : Kind} {sp : Space} (arg : Memref sig κ sp s e) (h : arg.IsWhole)
    (X : Vec F s e) (r : Rect s) : arg.view.readAt (Elt F) r.toLoadRect (h.unread X) = View.ld X r := by
  rw [View.readAt_eq_ld, h.read_unread]

/-- Pieces that cover a view and agree with `G`, read back over anything, give `G`. -/
theorem read_cover {s : Shape} {e : EltTy} {κ : Kind} {sp : Space} (v : View sig κ sp s e) (f : v.ty.Contents (Elt F))
    (L : List (View.Piece (Elt F) s e)) (G : Vec F s e) (hc : ∀ y, ∃ p ∈ L, y ∈ p.1.set)
    (hL : ∀ p ∈ L, ∀ x : p.1.shape.Idx, p.2 x = G (p.1.emb x)) : v.read (Elt F) (v.writes (Elt F) f L) = G :=
  funext fun y => View.read_writes_agree v f G y L hL (Or.inl (hc y))

/-- One piece that is the whole of a view, read back over anything, gives its payload. -/
theorem read_one {s : Shape} {e : EltTy} {κ : Kind} {sp : Space} (v : View sig κ sp s e) (f : v.ty.Contents (Elt F))
    {off : Fin s.rank → ℕ} (h : off = fun _ => 0) (inb : ∀ a, off a + s.size a ≤ s.size a) (w : Vec F s e) :
    v.read (Elt F) (v.writes (Elt F) f [⟨Rect.unit off s.size inb, w⟩]) = w := by
  subst h
  refine read_cover v f _ w (fun y => ⟨_, List.mem_singleton.mpr rfl, ?_⟩) ?_
  · rw [Rect.mem_set_unit]
    exact fun a => ⟨Nat.zero_le _, (Nat.zero_add _).symm ▸ (y a).isLt⟩
  · rintro p hp x
    obtain rfl := List.mem_singleton.mp hp
    exact congrArg w (Rect.emb_whole_apply s x).symm

/-- The output block of a point with rows `x`, weight block `w` and scales `s`. -/
def product (x w : Vec F S256x7168 .bf16) (s : Vec F S1x256 .f32) : Vec F S256x256 .bf16 := k0_pay1 (accum x w) s

/-- The 32 stores of case A leave the table of halves. -/
theorem table_read_A (c : Dev nD) (arg3 : Memref sig .tc .vmem S2x8x256 .i8) (harg3 : arg3.IsWhole)
    (x2 : Vec F S2x8x256 .i8) {κ : Kind} {sp : Space} (v : View sig κ sp S2x16x32x128 .i8) (f : v.ty.Contents (Elt F)) :
    v.read (Elt F) (v.writes (Elt F) f (kernelRun0_A.sl.HS0_32 c arg3 harg3 x2)) = tableOf x2 := by
  have h := table_A c arg3 harg3 x2
  rw [TableAgrees, harg3.read_unread] at h
  exact read_cover v f _ _
    (View.cover_of_tiledL (kernelRun0_A.sl.HS0_32 c arg3 harg3 x2) S1x1x32x128.size (by sl_kernel_rfl)) h

/-- The 448 tiles of case A cover the weight scratch. -/
theorem cover_A (c : Dev nD) (arg2 : Memref sig .tc .vmem S2x256x896 .i8) (harg2 : arg2.IsWhole)
    (arg3 : Memref sig .tc .vmem S2x8x256 .i8) (harg3 : arg3.IsWhole) (arg6 : Memref sig .tc .vmem S2x16x32x128 .i8)
    (x1 : Vec F S2x256x896 .i8) (x2 : Vec F S2x8x256 .i8) :
    ∀ y, ∃ p ∈ kernelRun0_A.sl.HS1_448 c arg2 harg2 arg3 harg3 arg6 x1 x2, y ∈ p.1.set :=
  View.cover_of_tiledL (kernelRun0_A.sl.HS1_448 c arg2 harg2 arg3 harg3 arg6 x1 x2) S32x128.size (by sl_kernel_rfl)

/-- The 448 tiles of case B cover the weight scratch. -/
theorem cover_B (c : Dev nD) (arg2 : Memref sig .tc .vmem S2x256x896 .i8) (harg2 : arg2.IsWhole)
    (arg6 : Memref sig .tc .vmem S2x16x32x128 .i8) (harg6 : arg6.IsWhole)
    (x1 : Vec F S2x256x896 .i8) (xs0 : Vec F S2x16x32x128 .i8) :
    ∀ y, ∃ p ∈ kernelRun0_B.sl.HS1_448 c arg2 harg2 arg6 harg6 x1 xs0, y ∈ p.1.set :=
  View.cover_of_tiledL (kernelRun0_B.sl.HS1_448 c arg2 harg2 arg6 harg6 x1 xs0) S32x128.size (by sl_kernel_rfl)

/-- The weight scratch of case A is the weight block, once every tile is stored. -/
theorem stored_A (c : Dev nD) (arg2 : Memref sig .tc .vmem S2x256x896 .i8) (harg2 : arg2.IsWhole)
    (arg3 : Memref sig .tc .vmem S2x8x256 .i8) (harg3 : arg3.IsWhole) (arg6 : Memref sig .tc .vmem S2x16x32x128 .i8)
    (arg7 : Memref sig .tc .vmem S256x7168 .bf16) (x1 : Vec F S2x256x896 .i8) (x2 : Vec F S2x8x256 .i8) (r : Rect S256x7168) :
    arg7.view.readCov (kernelRun0_A.sl.HS1_448 c arg2 harg2 arg3 harg3 arg6 x1 x2) r.toLoadRect = View.ld (weight x1 (tableOf x2)) r := by
  have ht : arg6.view.read (Elt F) (arg6.view.writes (Elt F) arg6.view.junk (kernelRun0_A.sl.HS0_32 c arg3 harg3 x2)) = tableOf x2 :=
    table_read_A c arg3 harg3 x2 arg6.view arg6.view.junk
  have h := agrees_A c arg2 harg2 arg3 harg3 arg6 x1 x2
  rw [Agrees, harg2.read_unread, ht] at h
  exact congrArg (fun G => View.ld G r) (read_cover arg7.view arg7.view.junk _ _ (cover_A c arg2 harg2 arg3 harg3 arg6 x1 x2) h)

/-- The accumulator of case A. -/
theorem accum_A (c : Dev nD) (arg1 : Memref sig .tc .vmem S256x7168 .bf16) (harg1 : arg1.IsWhole) (arg2 : Memref sig .tc .vmem S2x256x896 .i8) (harg2 : arg2.IsWhole)
    (arg3 : Memref sig .tc .vmem S2x8x256 .i8) (harg3 : arg3.IsWhole) (arg6 : Memref sig .tc .vmem S2x16x32x128 .i8)
    (arg7 : Memref sig .tc .vmem S256x7168 .bf16) (x1 : Vec F S2x256x896 .i8) (x2 : Vec F S2x8x256 .i8) (x0 : Vec F S256x7168 .bf16) :
    kernelRun0_A.sl.r_1784 c arg1 harg1 arg2 harg2 arg3 harg3 arg6 arg7 x0 x1 x2 = accum x0 (weight x1 (tableOf x2)) := by
  unfold kernelRun0_A.sl.r_1784 kernelRun0_A.sl.r_1783 accum
  simp only [kernelRun0_A.sl.v22853, kernelRun0_A.sl.v22857, kernelRun0_A.sl.v22862, kernelRun0_A.sl.v22867, kernelRun0_A.sl.v22872, kernelRun0_A.sl.v22877, kernelRun0_A.sl.v22882, read_whole, stored_A, cols]

/-- The weight scratch of case B is the weight block, once every tile is stored. -/
theorem stored_B (c : Dev nD) (arg2 : Memref sig .tc .vmem S2x256x896 .i8) (harg2 : arg2.IsWhole)
    (arg6 : Memref sig .tc .vmem S2x16x32x128 .i8) (harg6 : arg6.IsWhole)
    (arg7 : Memref sig .tc .vmem S256x7168 .bf16) (x1 : Vec F S2x256x896 .i8) (xs0 : Vec F S2x16x32x128 .i8) (r : Rect S256x7168) :
    arg7.view.readCov (kernelRun0_B.sl.HS1_448 c arg2 harg2 arg6 harg6 x1 xs0) r.toLoadRect = View.ld (weight x1 (xs0)) r := by
  have h := agrees_B c arg2 harg2 arg6 harg6 x1 xs0
  rw [Agrees, harg2.read_unread, harg6.read_unread] at h
  exact congrArg (fun G => View.ld G r) (read_cover arg7.view arg7.view.junk _ _ (cover_B c arg2 harg2 arg6 harg6 x1 xs0) h)

/-- The accumulator of case B. -/
theorem accum_B (c : Dev nD) (arg1 : Memref sig .tc .vmem S256x7168 .bf16) (harg1 : arg1.IsWhole) (arg2 : Memref sig .tc .vmem S2x256x896 .i8) (harg2 : arg2.IsWhole)
    (arg6 : Memref sig .tc .vmem S2x16x32x128 .i8) (harg6 : arg6.IsWhole)
    (arg7 : Memref sig .tc .vmem S256x7168 .bf16) (x1 : Vec F S2x256x896 .i8) (xs0 : Vec F S2x16x32x128 .i8) (x0 : Vec F S256x7168 .bf16) :
    kernelRun0_B.sl.r_1800 c arg1 harg1 arg2 harg2 arg6 harg6 arg7 x0 x1 xs0 = accum x0 (weight x1 (xs0)) := by
  unfold kernelRun0_B.sl.r_1800 kernelRun0_B.sl.r_1799 accum
  simp only [kernelRun0_B.sl.v22853, kernelRun0_B.sl.v22857, kernelRun0_B.sl.v22862, kernelRun0_B.sl.v22867, kernelRun0_B.sl.v22872, kernelRun0_B.sl.v22877, kernelRun0_B.sl.v22882, read_whole, stored_B, cols]

/-- What case A leaves in the output's buffer. -/
theorem out_A (c : Dev nD) (i : grid0.Coords) (arg1 : Memref sig .tc .vmem S256x7168 .bf16) (harg1 : arg1.IsWhole) (arg2 : Memref sig .tc .vmem S2x256x896 .i8) (harg2 : arg2.IsWhole) (arg3 : Memref sig .tc .vmem S2x8x256 .i8) (harg3 : arg3.IsWhole) (arg4 : Memref sig .tc .vmem S1x256 .f32) (harg4 : arg4.IsWhole) (arg5 : Memref sig .tc .vmem S256x256 .bf16) (harg5 : arg5.IsWhole) (arg6 : Memref sig .tc .vmem S2x16x32x128 .i8) (harg6 : arg6.IsWhole) (arg7 : Memref sig .tc .vmem S256x7168 .bf16) (harg7 : arg7.IsWhole) (hc0 : cond0_0 i)
    (x0 : Vec F S256x7168 .bf16) (x1 : Vec F S2x256x896 .i8) (x2 : Vec F S2x8x256 .i8) (x3 : Vec F S1x256 .f32) :
    out0_A_4 c i arg1 harg1 arg2 harg2 arg3 harg3 arg4 harg4 arg5 harg5 arg6 harg6 arg7 harg7 hc0 x0 x1 x2 x3 = product x0 (weight x1 (tableOf x2)) x3 := by
  unfold out0_A_4
  refine (read_one VO0_4 VO0_4.junk (by funext a; fin_cases a <;> rfl) inb_S256x256_S256x256_0_0
    (k0_pay1 (kernelRun0_A.sl.r_1784 c arg1 harg1 arg2 harg2 arg3 harg3 arg6 arg7 x0 x1 x2) (kernelRun0_A.sl.r_1785 c arg4 harg4 x3))).trans ?_
  rw [accum_A, kernelRun0_A.sl.r_1785, read_whole, View.ld_unit_zero (by funext a; fin_cases a <;> rfl)]
  rfl

/-- What case A leaves in the table's scratch. -/
theorem table_A' (c : Dev nD) (i : grid0.Coords) (arg1 : Memref sig .tc .vmem S256x7168 .bf16) (harg1 : arg1.IsWhole) (arg2 : Memref sig .tc .vmem S2x256x896 .i8) (harg2 : arg2.IsWhole) (arg3 : Memref sig .tc .vmem S2x8x256 .i8) (harg3 : arg3.IsWhole) (arg4 : Memref sig .tc .vmem S1x256 .f32) (harg4 : arg4.IsWhole) (arg5 : Memref sig .tc .vmem S256x256 .bf16) (harg5 : arg5.IsWhole) (arg6 : Memref sig .tc .vmem S2x16x32x128 .i8) (harg6 : arg6.IsWhole) (arg7 : Memref sig .tc .vmem S256x7168 .bf16) (harg7 : arg7.IsWhole) (hc0 : cond0_0 i)
    (x0 : Vec F S256x7168 .bf16) (x1 : Vec F S2x256x896 .i8) (x2 : Vec F S2x8x256 .i8) (x3 : Vec F S1x256 .f32) :
    sout0_A_0 c i arg1 harg1 arg2 harg2 arg3 harg3 arg4 harg4 arg5 harg5 arg6 harg6 arg7 harg7 hc0 x0 x1 x2 x3 = tableOf x2 :=
  table_read_A c arg3 harg3 x2 VS0_0 VS0_0.junk

/-- What case B leaves in the output's buffer. -/
theorem out_B (c : Dev nD) (i : grid0.Coords) (arg1 : Memref sig .tc .vmem S256x7168 .bf16) (harg1 : arg1.IsWhole) (arg2 : Memref sig .tc .vmem S2x256x896 .i8) (harg2 : arg2.IsWhole) (arg3 : Memref sig .tc .vmem S2x8x256 .i8) (harg3 : arg3.IsWhole) (arg4 : Memref sig .tc .vmem S1x256 .f32) (harg4 : arg4.IsWhole) (arg5 : Memref sig .tc .vmem S256x256 .bf16) (harg5 : arg5.IsWhole) (arg6 : Memref sig .tc .vmem S2x16x32x128 .i8) (harg6 : arg6.IsWhole) (arg7 : Memref sig .tc .vmem S256x7168 .bf16) (harg7 : arg7.IsWhole) (hc0 : ¬cond0_0 i)
    (x0 : Vec F S256x7168 .bf16) (x1 : Vec F S2x256x896 .i8) (x2 : Vec F S2x8x256 .i8) (x3 : Vec F S1x256 .f32) (xs0 : Vec F S2x16x32x128 .i8) :
    out0_B_4 c i arg1 harg1 arg2 harg2 arg3 harg3 arg4 harg4 arg5 harg5 arg6 harg6 arg7 harg7 hc0 x0 x1 x2 x3 xs0 = product x0 (weight x1 xs0) x3 := by
  unfold out0_B_4
  refine (read_one VO0_4 VO0_4.junk (by funext a; fin_cases a <;> rfl) inb_S256x256_S256x256_0_0
    (k0_pay1 (kernelRun0_B.sl.r_1800 c arg1 harg1 arg2 harg2 arg6 harg6 arg7 x0 x1 xs0) (kernelRun0_B.sl.r_1801 c arg4 harg4 x3))).trans ?_
  rw [accum_B, kernelRun0_B.sl.r_1801, read_whole, View.ld_unit_zero (by funext a; fin_cases a <;> rfl)]
  rfl

end Cert.KernelIdeal.Tiles
-- ==== Proof.Array.lean ====
/-
  The kernel's result: every point writes its own block of 256 output columns, so the result array is, column by column, the
  product that the column's point computes; the host lines before the call only lay the arguments out, the one after it only
  gives the result its leading axis.
-/
module

public import proofs.«01_k».proof.Proof.Blocks
public import Idealize.ShloMosaic.Lib.Pipeline.Value

@[expose] public section

noncomputable section

namespace Cert.KernelIdeal.ArrayValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Tiles Cert.Decode

variable {F : FTy → Type} [FloatOps F]
variable (m : (ℓ : Loc nD τ sig) → Buf (Elt F) ℓ) (ρ : Dev nD → PrngReg)

/-! ## The arrays the call is given -/

/-- The activations, laid out by tile, component, lane. -/
def rows (x : FVec F S1x256x7168 .bf16) : FVec F S256x7168 .bf16 :=
  shapeCast S256x7168
    (transpose S256x7x8x128 [0, 1, 3, 2] (shapeCast S256x7x128x8 x shapeCasts_S1x256x7168_S256x7x128x8)
      transposes_S256x7x128x8_S256x7x8x128_0_1_3_2) shapeCasts_S256x7x8x128_S256x7168

/-- The codes, codebook first. -/
def planes (codes : IVec S18432x896x2 8) : IVec S2x18432x896 8 :=
  transpose S2x18432x896 [2, 0, 1] codes transposes_S18432x896x2_S2x18432x896_2_0_1

/-- The codebook, component before entry. -/
def book (cb : IVec S2x256x8 8) : IVec S2x8x256 8 :=
  transpose S2x8x256 [0, 2, 1] cb transposes_S2x256x8_S2x8x256_0_2_1

/-- The scales as one row. -/
def scaleRow (sc : FVec F S18432 .f32) : FVec F S1x18432 .f32 := shapeCast S1x18432 sc shapeCasts_S18432_S1x18432

theorem V_rows (c : Dev nD) : V m c main_v2 = rows (m ((c : Thread nD τ).loc main_arg0)) := by
  unfold rows
  show StableHlo.after (List.flatten [hostOps0]) _ _ = _
  simp only [List.flatten_cons, List.flatten_nil, List.append_nil]
  after_results
  rfl

theorem V_planes (c : Dev nD) : V m c main_v3 = planes (m ((c : Thread nD τ).loc main_arg1)) := by
  unfold planes
  show StableHlo.after (List.flatten [hostOps0]) _ _ = _
  simp only [List.flatten_cons, List.flatten_nil, List.append_nil]
  after_results

theorem V_book (c : Dev nD) : V m c main_v4 = book (m ((c : Thread nD τ).loc main_arg2)) := by
  unfold book
  show StableHlo.after (List.flatten [hostOps0]) _ _ = _
  simp only [List.flatten_cons, List.flatten_nil, List.append_nil]
  after_results

theorem V_scale (c : Dev nD) : V m c main_v5 = scaleRow (m ((c : Thread nD τ).loc main_arg3)) := by
  unfold scaleRow
  show StableHlo.after (List.flatten [hostOps0]) _ _ = _
  simp only [List.flatten_cons, List.flatten_nil, List.append_nil]
  after_results
  rfl

/-! ## The blocks a point is given -/

/-- Columns `256 t` to `256 t + 255` of the codes. -/
def planesAt (P : IVec S2x18432x896 8) (t : Fin 72) : IVec S2x256x896 8 := fun j =>
  P (ix3 (j 0) ⟨256 * t.val + (j 1).val, by have := (j 1).isLt; have := t.isLt; simp at *; omega⟩ (j 2))

/-- Entries `256 t` to `256 t + 255` of the scales. -/
def scaleAt (s : FVec F S1x18432 .f32) (t : Fin 72) : FVec F S1x256 .f32 := fun j =>
  s (ix2 (j 0) ⟨256 * t.val + (j 1).val, by have := (j 1).isLt; have := t.isLt; simp at *; omega⟩)

/-- Where the windows of a point are. -/
theorem index0 : ∀ t : Fin cfg0.N, win0_0.index t 0 * win0_0.size 0 = 0 ∧ win0_0.index t 1 * win0_0.size 1 = 0 := by decide +kernel
theorem index1 : ∀ t : Fin cfg0.N, win0_1.index t 0 * win0_1.size 0 = 0 ∧ win0_1.index t 1 * win0_1.size 1 = 256 * t.val
    ∧ win0_1.index t 2 * win0_1.size 2 = 0 := by decide +kernel
theorem index2 : ∀ t : Fin cfg0.N, win0_2.index t 0 * win0_2.size 0 = 0 ∧ win0_2.index t 1 * win0_2.size 1 = 0
    ∧ win0_2.index t 2 * win0_2.size 2 = 0 := by decide +kernel
theorem index3 : ∀ t : Fin cfg0.N, win0_3.index t 0 * win0_3.size 0 = 0 ∧ win0_3.index t 1 * win0_3.size 1 = 256 * t.val := by decide +kernel
theorem index4 : ∀ t : Fin cfg0.N, win0_4.index t 0 * win0_4.size 0 = 0 ∧ win0_4.index t 1 * win0_4.size 1 = 256 * t.val
    ∧ win0_4.xsize (grid0.coords t) 0 = 256 ∧ win0_4.xsize (grid0.coords t) 1 = 256 := by decide +kernel

theorem iblk0 (c : Dev nD) (t : Fin cfg0.N) : iblk m c 0 t = rows (m ((c : Thread nD τ).loc main_arg0)) := by
  rw [← V_rows m c]
  funext j
  refine congrArg (V m c main_v2) (show (win0_0.rect t).emb j = j from funext fun a => Fin.ext ?_)
  show win0_0.index t a * win0_0.size a + 1 * (j a).val = (j a).val
  have h := index0 t
  match a with
  | ⟨0, _⟩ => have := h.1; show win0_0.index t 0 * win0_0.size 0 + 1 * _ = _; omega
  | ⟨1, _⟩ => have := h.2; show win0_0.index t 1 * win0_0.size 1 + 1 * _ = _; omega

theorem iblk2 (c : Dev nD) (t : Fin cfg0.N) : iblk m c 2 t = book (m ((c : Thread nD τ).loc main_arg2)) := by
  rw [← V_book m c]
  funext j
  refine congrArg (V m c main_v4) (show (win0_2.rect t).emb j = j from funext fun a => Fin.ext ?_)
  show win0_2.index t a * win0_2.size a + 1 * (j a).val = (j a).val
  have h := index2 t
  match a with
  | ⟨0, _⟩ => have := h.1; show win0_2.index t 0 * win0_2.size 0 + 1 * _ = _; omega
  | ⟨1, _⟩ => have := h.2.1; show win0_2.index t 1 * win0_2.size 1 + 1 * _ = _; omega
  | ⟨2, _⟩ => have := h.2.2; show win0_2.index t 2 * win0_2.size 2 + 1 * _ = _; omega

theorem iblk1 (c : Dev nD) (t : Fin cfg0.N) :
    iblk m c 1 t = planesAt (planes (m ((c : Thread nD τ).loc main_arg1))) (t.cast N_0) := by
  rw [← V_planes m c]
  funext j
  refine congrArg (V m c main_v3) (show (win0_1.rect t).emb j = _ from funext fun a => Fin.ext ?_)
  have h := index1 t
  match a with
  | ⟨0, _⟩ => have := h.1; show win0_1.index t 0 * win0_1.size 0 + 1 * (j 0).val = (j 0).val; omega
  | ⟨1, _⟩ => have := h.2.1; show win0_1.index t 1 * win0_1.size 1 + 1 * (j 1).val = 256 * t.val + (j 1).val; omega
  | ⟨2, _⟩ => have := h.2.2; show win0_1.index t 2 * win0_1.size 2 + 1 * (j 2).val = (j 2).val; omega

theorem iblk3 (c : Dev nD) (t : Fin cfg0.N) :
    iblk m c 3 t = scaleAt (scaleRow (m ((c : Thread nD τ).loc main_arg3))) (t.cast N_0) := by
  rw [← V_scale m c]
  funext j
  refine congrArg (V m c main_v5) (show (win0_3.rect t).emb j = _ from funext fun a => Fin.ext ?_)
  have h := index3 t
  match a with
  | ⟨0, _⟩ => have := h.1; show win0_3.index t 0 * win0_3.size 0 + 1 * (j 0).val = (j 0).val; omega
  | ⟨1, _⟩ => have := h.2; show win0_3.index t 1 * win0_3.size 1 + 1 * (j 1).val = 256 * t.val + (j 1).val; omega

/-! ## What the points leave -/

/-- Every point leaves the same table behind: the first builds it, the others keep it. -/
theorem carried (c : Dev nD) : ∀ (n : ℕ) (hn : n < cfg0.N),
    (outsAt0 m c n hn).2 = tableOf (book (m ((c : Thread nD τ).loc main_arg2)))
  | 0, hn => by
    rw [outsAt0_A m c ⟨0, hn⟩ (Nat.zero_mod _)]
    dsimp only
    rw [table_A', iblk2]
  | n + 1, hn => by
    have hN : n + 1 < 72 := lt_of_lt_of_eq hn N_0
    rw [outsAt0_B m c ⟨n + 1, hn⟩ (by show ¬ (n + 1) % 72 = 0; omega)]
    dsimp only [sout0_B_0, Nat.add_sub_cancel]
    exact carried c n (Nat.lt_of_succ_lt hn)

/-- The block the kernel writes at point `t`. -/
def blockAt (x : FVec F S1x256x7168 .bf16) (codes : IVec S18432x896x2 8) (cb : IVec S2x256x8 8) (sc : FVec F S18432 .f32)
    (t : Fin 72) : FVec F S256x256 .bf16 :=
  product (rows x) (weight (planesAt (planes codes) t) (tableOf (book cb))) (scaleAt (scaleRow sc) t)

theorem out_at (c : Dev nD) (t : Fin cfg0.N) : (outsAt0 m c t.val t.isLt).1
    = blockAt (m ((c : Thread nD τ).loc main_arg0)) (m ((c : Thread nD τ).loc main_arg1))
        (m ((c : Thread nD τ).loc main_arg2)) (m ((c : Thread nD τ).loc main_arg3)) (t.cast N_0) := by
  unfold blockAt
  by_cases h0 : t.val % 72 = 0
  · rw [outsAt0_A m c t h0]
    dsimp only
    rw [out_A, iblk0, iblk1, iblk2, iblk3]
  · rw [outsAt0_B m c t h0]
    dsimp only
    rw [out_B, carried, iblk0, iblk1, iblk3]

/-- The whole result, before the host gives it its leading axis. -/
def whole (x : FVec F S1x256x7168 .bf16) (codes : IVec S18432x896x2 8) (cb : IVec S2x256x8 8) (sc : FVec F S18432 .f32) :
    FVec F S256x18432 .bf16 := fun i =>
  blockAt x codes cb sc ⟨(i 1).val / 256, by have := (i 1).isLt; simp at *; omega⟩
    (ix2 (i 0) ⟨(i 1).val % 256, Nat.mod_lt _ (by norm_num)⟩)

/-- `whole` of device `c`'s arguments. -/
abbrev wholeAt (c : Dev nD) : FVec F S256x18432 .bf16 :=
  whole (m ((c : Thread nD τ).loc main_arg0)) (m ((c : Thread nD τ).loc main_arg1))
        (m ((c : Thread nD τ).loc main_arg2)) (m ((c : Thread nD τ).loc main_arg3))

theorem flushed_eq (c : Dev nD) (t : Fin cfg0.N) :
    (dats m 0 c).flushed 4 t = (win0_4.blk t).view.read (Elt F) (wholeAt m c) := by
  show (cfg0.win 4).cut (grid0.coords t) ((dats m 0 c).after 4 t) = _
  rw [after0_4, out_at]
  funext j
  show blockAt _ _ _ _ (t.cast N_0) j = whole _ _ _ _ ((win0_4.rect t).emb j)
  have h := index4 t
  have e0 : ((win0_4.rect t).emb j 0).val = (j 0).val := by
    have := h.1; show win0_4.index t 0 * win0_4.size 0 + 1 * (j 0).val = (j 0).val; omega
  have e1 : ((win0_4.rect t).emb j 1).val = 256 * t.val + (j 1).val := by
    have := h.2.1; show win0_4.index t 1 * win0_4.size 1 + 1 * (j 1).val = 256 * t.val + (j 1).val; omega
  have hj : (j 1).val < 256 := (j 1).isLt
  unfold whole
  refine congrArg₂ (fun t' j' => blockAt _ _ _ _ t' j') (Fin.ext ?_) (funext fun a => Fin.ext ?_)
  · show t.val = ((win0_4.rect t).emb j 1).val / 256
    rw [e1]; omega
  · match a with
    | ⟨0, _⟩ => exact e0.symm
    | ⟨1, _⟩ => show (j 1).val = ((win0_4.rect t).emb j 1).val % 256; rw [e1]; omega

theorem mem_blk (t : Fin cfg0.N) (i : S256x18432.Idx) (h : (i 1).val / 256 = t.val) : i ∈ ((cfg0.win 4).blk t).view.set := by
  have h0 : (i 0 : Nat) < 256 := (i 0).isLt
  have h1 : (i 1 : Nat) < 18432 := (i 1).isLt
  show i ∈ ((View.whole main_v6).slice (win0_4.rect t)).set
  rw [View.set_slice_whole, Rect.mem_set_unit]
  intro a
  have e := index4 t
  match a with
  | ⟨0, _⟩ =>
    show win0_4.index t 0 * win0_4.size 0 ≤ (i 0 : Nat) ∧ (i 0 : Nat) < win0_4.index t 0 * win0_4.size 0 + win0_4.xsize (grid0.coords t) 0
    rw [e.1, e.2.2.1]; omega
  | ⟨1, _⟩ =>
    show win0_4.index t 1 * win0_4.size 1 ≤ (i 1 : Nat) ∧ (i 1 : Nat) < win0_4.index t 1 * win0_4.size 1 + win0_4.xsize (grid0.coords t) 1
    rw [e.2.1, e.2.2.2]; omega

theorem cover (i : S256x18432.Idx) :
    ∃ t : Fin cfg0.N, (cfg0.win 4).flush t = true ∧ i ∈ ((cfg0.win 4).blk t).view.set := by
  have h1 : (i 1 : Nat) < 18432 := (i 1).isLt
  have hN : cfg0.N = 72 := N_0
  exact ⟨⟨(i 1).val / 256, by omega⟩, flush0_4 _, mem_blk _ i rfl⟩

theorem final_whole (c : Dev nD) : (dats m 0 c).arrAt 4 cfg0.N = wholeAt m c :=
  (dats m 0 c).arrAt_eq_of_cover 4 (wholeAt m c) (fun t _ => flushed_eq m c t) cover

/-- The kernel's result. -/
def result (x : FVec F S1x256x7168 .bf16) (codes : IVec S18432x896x2 8) (cb : IVec S2x256x8 8) (sc : FVec F S18432 .f32) :
    FVec F S1x256x18432 .bf16 :=
  shapeCast S1x256x18432 (whole x codes cb sc) shapeCasts_S256x18432_S1x256x18432

theorem result_eq (c : Dev nD) :
    Pipeline.afterTail₀ cfgs (dats m) 0 (V0 m) [hostOps1] c main_v7
      = result (m ((c : Thread nD τ).loc main_arg0)) (m ((c : Thread nD τ).loc main_arg1))
        (m ((c : Thread nD τ).loc main_arg2)) (m ((c : Thread nD τ).loc main_arg3)) := by
  unfold Pipeline.afterTail₀ result
  rw [show ([hostOps1] : List (List (HloOp τ sig (Elt F)))).flatten = hostOps1 from by simp only [List.flatten_cons, List.flatten_nil, List.append_nil]]
  after_results
  refine congrArg (fun X => shapeCast S1x256x18432 X shapeCasts_S256x18432_S1x256x18432) (Eq.trans ?_ (final_whole m c))
  exact Pipeline.withArrays_arr spec0 launch0.win.arr_inj c (V0 m c) (fun w => (dats m 0 c).arrAt w cfg0.N) 4

theorem result_run : θ_run defs (onTc (τ := τ) (main (F := F))) ⟨m, fun _ => 0, ρ⟩ (fun r => ∀ c : Dev nD,
      r.2.mem ((c.tc : Thread nD τ).loc main_v7) = result (m ((c : Thread nD τ).loc main_arg0)) (m ((c : Thread nD τ).loc main_arg1))
          (m ((c : Thread nD τ).loc main_arg2)) (m ((c : Thread nD τ).loc main_arg3))) :=
  (θ_run defs _ _).mono
    (fun _ h c => ((h c).2 main_v7 (Pipeline.mem_restRefs_of main_v7 (by decide) (by decide))).trans (result_eq m c))
    (run_main m ρ)

/-- Every run of the kernel ends with its result, the arguments unchanged. -/
theorem run : θ_run defs (onTc (τ := τ) (main (F := F))) ⟨m, fun _ => 0, ρ⟩ (fun r => ∀ c : Dev nD,
      r.2.mem ((c.tc : Thread nD τ).loc main_v7) = result (m ((c : Thread nD τ).loc main_arg0)) (m ((c : Thread nD τ).loc main_arg1))
          (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h.1 c, h.2 c⟩)
    (θ_run_and (result_run m ρ) (unchanged m ρ))

end Cert.KernelIdeal.ArrayValue

end
-- ==== Proof.Spec.lean ====
/-
  The layer over the extended reals: `y[r, o] = (Σ_k x[r, k] · w[o, k]) · scale[o]`, where column `k` of the weight is
  component `k % 8` of group `k / 8`, the sum over the two codebooks of the entry the group's code names.
-/
module

public import Idealize.ShloMosaic.Lib.ValueIdx
public import Idealize.ShloMosaic.PureOps.Ideal

@[expose] public section

noncomputable section

open scoped BigOperators
open Idealize.ShloMosaic Idealize.ShloMosaic.ValueIdx

namespace Cert.Layer

abbrev SCodes : Shape := ⟨3, ![18432, 896, 2]⟩
abbrev SBook : Shape := ⟨3, ![2, 256, 8]⟩
abbrev SX : Shape := ⟨3, ![1, 256, 7168]⟩
abbrev SScale : Shape := ⟨1, ![18432]⟩

/-- Component `j` of the entry of codebook `b` that output `o`'s group `g` names. -/
def entry (codes : IVec SCodes 8) (cb : IVec SBook 8) (b : Fin 2) (o : Fin 18432) (g : Fin 896) (j : Fin 8) : EReal :=
  Ideal.ofBits .fp8e4m3 (cb (ix3 b ⟨(codes (ix3 o g b)).toNat, (codes (ix3 o g b)).isLt⟩ j))

/-- The decoded weight. -/
def weight (codes : IVec SCodes 8) (cb : IVec SBook 8) (o : Fin 18432) (k : Fin 7168) : EReal :=
  entry codes cb 0 o ⟨k.val / 8, by omega⟩ ⟨k.val % 8, by omega⟩ + entry codes cb 1 o ⟨k.val / 8, by omega⟩ ⟨k.val % 8, by omega⟩

/-- The layer. -/
def layer (x : FVec Ideal SX .bf16) (codes : IVec SCodes 8) (cb : IVec SBook 8) (sc : FVec Ideal SScale .f32)
    (r : Fin 256) (o : Fin 18432) : EReal :=
  (∑ k : Fin 7168, (x (ix3 0 r k) * weight codes cb o k : EReal)) * sc (ix1 o)

end Cert.Layer

end
-- ==== Proof.KernelSum.lean ====
/-
  The kernel's result at an index, over the extended reals: seven sums of 1024 products each, scaled, and these are the sum
  over all 7168 columns taken in the kernel's order of the columns.
-/
module

public import proofs.«01_k».proof.Proof.Array
public import proofs.«01_k».proof.Proof.Spec
public import Idealize.ShloMosaic.Lib.MatmulPlain
public import Idealize.ShloMosaic.Lib.IdealHost

@[expose] public section

set_option maxRecDepth 4096

noncomputable section

open scoped BigOperators
open Idealize.ShloMosaic Idealize.ShloMosaic.ValueIdx Cert.Decode
open Cert.KernelIdeal Cert.KernelIdeal.Gen Cert.KernelIdeal.Tiles

namespace Cert.KernelIdeal.ArrayValue

/-- Column `1024 t + l`. -/
abbrev col (t : Fin 7) (l : Fin 1024) : Fin 7168 := ⟨1024 * t.val + l.val, by omega⟩

theorem cols_apply (n : ℕ) (h) (X : FVec Ideal S256x7168 .bf16) (r : Fin 256) (t : Fin 7) (l : Fin 1024) (hn : n = 1024 * t.val) :
    cols (F := Ideal) n h X (ix2 r l) = X (ix2 r (col t l)) := by
  subst hn
  refine congrArg X (funext fun a => Fin.ext ?_)
  match a with
  | ⟨0, _⟩ => show 0 + 1 * r.val = r.val; omega
  | ⟨1, _⟩ => show 1024 * t.val + 1 * l.val = 1024 * t.val + l.val; omega

/-- The zero the products are accumulated from. -/
theorem zero_apply (i : S256x256.Idx) : (constant (F := Ideal) S256x256 .f32 0x00000000#32) i = (0 : EReal) := Ideal.ofBits_zero_f32

/-- One of the seven products. -/
abbrev dot (n : ℕ) (h : ∀ a, (![0, n] : Fin 2 → ℕ) a + S256x1024.size a ≤ S256x7168.size a) (x w : FVec Ideal S256x7168 .bf16) :
    FVec Ideal S256x256 .f32 :=
  matmul (φ₁ := .bf16) (φ₂ := .bf16) dot_S256x1024_S256x1024_S256x256_1_1_0_0_n_n none
    (shapeCast S256x1024 (cols (F := Ideal) n h x) shapeCasts_S256x1024_S256x1024 : FVec Ideal S256x1024 .bf16)
    (cols (F := Ideal) n h w : FVec Ideal S256x1024 .bf16) (constant S256x256 .f32 0x00000000#32)

/-- One of the seven products at an index. -/
theorem dot_apply (n : ℕ) (h) (x w : FVec Ideal S256x7168 .bf16) (r o : Fin 256) (t : Fin 7) (hn : n = 1024 * t.val) :
    dot n h x w (ix2 r o) = (∑ l : Fin 1024, (x (ix2 r (col t l)) * w (ix2 o (col t l)) : EReal)) := by
  unfold dot
  rw [shapeCast_self]
  refine (Ideal.matmul_transposedRhs_apply (M := 256) (K := 1024) (N := 256) (φ₁ := .bf16) (φ₂ := .bf16) none (cols (F := Ideal) n h x) (cols (F := Ideal) n h w) _ r o).trans ?_
  rw [zero_apply, zero_add]
  exact Finset.sum_congr rfl fun l _ => by rw [cols_apply n h x r t l hn, cols_apply n h w o t l hn]

/-- A point's output block at an index. -/
theorem product_apply (x w : FVec Ideal S256x7168 .bf16) (s : FVec Ideal S1x256 .f32) (r o : Fin 256) :
    product (F := Ideal) x w s (ix2 r o)
      = ((∑ t : Fin 7, ∑ l : Fin 1024, (x (ix2 r (col t l)) * w (ix2 o (col t l)) : EReal)) * s (ix2 0 o) : EReal) := by
  have hs : broadcastTo S256x256 (shapeCast S1x256 s shapeCasts_S1x256_S1x256) broadcasts_S1x256_S256x256 (ix2 r o) = s (ix2 0 o) := by
    rw [shapeCast_self]
    refine broadcastTo_apply _ _ _ _ fun a => ?_
    match a with
    | ⟨0, _⟩ => rfl
    | ⟨1, _⟩ => rfl
  have e : product (F := Ideal) x w s (ix2 r o)
      = ((((((((dot 0 inb_S256x7168_S256x1024_0_0 x w (ix2 r o) : EReal) + dot 1024 inb_S256x7168_S256x1024_0_1024 x w (ix2 r o))
          + dot 2048 inb_S256x7168_S256x1024_0_2048 x w (ix2 r o)) + dot 3072 inb_S256x7168_S256x1024_0_3072 x w (ix2 r o))
          + dot 4096 inb_S256x7168_S256x1024_0_4096 x w (ix2 r o)) + dot 5120 inb_S256x7168_S256x1024_0_5120 x w (ix2 r o))
          + dot 6144 inb_S256x7168_S256x1024_0_6144 x w (ix2 r o))
        * broadcastTo S256x256 (shapeCast S1x256 s shapeCasts_S1x256_S1x256) broadcasts_S1x256_S256x256 (ix2 r o) : EReal) := by
    unfold product accum k0_pay1 k0_pay2378 k0_pay2377
    dsimp only
    rw [truncf_apply, mulf_apply, addf_apply, addf_apply, addf_apply, addf_apply, addf_apply, addf_apply]
  rw [e, hs, dot_apply 0 _ x w r o 0 rfl, dot_apply 1024 _ x w r o 1 rfl, dot_apply 2048 _ x w r o 2 rfl,
    dot_apply 3072 _ x w r o 3 rfl, dot_apply 4096 _ x w r o 4 rfl, dot_apply 5120 _ x w r o 5 rfl,
    dot_apply 6144 _ x w r o 6 rfl, Fin.sum_univ_seven]

/-- The column of the arguments that column `k` of the laid out arrays is. -/
def src (k : Fin 7168) : Fin 7168 := ⟨8 * (group k).val + (comp k).val, by unfold group comp; dsimp only; omega⟩

theorem rows_apply (x : FVec Ideal S1x256x7168 .bf16) (r : Fin 256) (k : Fin 7168) :
    rows x (ix2 r k) = x (ix3 0 r (src k)) := by
  unfold rows
  rw [shapeCast_apply _ _ (ix2 r k)
      (ix4 r (⟨k.val / 1024, by omega⟩ : Fin 7) (⟨k.val % 1024 / 128, by omega⟩ : Fin 8) (⟨k.val % 128, by omega⟩ : Fin 128)) (by
        rw [Shape.rowMajor_val_four, Shape.rowMajor_val_two]
        show ((r.val * 7 + k.val / 1024) * 8 + k.val % 1024 / 128) * 128 + k.val % 128 = r.val * 7168 + k.val
        omega),
    transpose_apply _ _ _ _
      (ix4 r (⟨k.val / 1024, by omega⟩ : Fin 7) (⟨k.val % 128, by omega⟩ : Fin 128) (⟨k.val % 1024 / 128, by omega⟩ : Fin 8)) (fun b => by
        match b with
        | ⟨0, _⟩ => rfl
        | ⟨1, _⟩ => rfl
        | ⟨2, _⟩ => rfl
        | ⟨3, _⟩ => rfl)]
  refine shapeCast_apply _ _ _ _ ?_
  rw [Shape.rowMajor_val_four, Shape.rowMajor_val_three]
  show (0 * 256 + r.val) * 7168 + (src k).val = ((r.val * 7 + k.val / 1024) * 128 + k.val % 128) * 8 + k.val % 1024 / 128
  unfold src group comp
  dsimp only
  omega

theorem planesAt_apply (codes : IVec S18432x896x2 8) (t : Fin 72) (b : Fin 2) (o : Fin 256) (g : Fin 896) :
    planesAt (planes codes) t (ix3 b o g) = codes (ix3 (⟨256 * t.val + o.val, by omega⟩ : Fin 18432) g b) := by
  unfold planesAt planes
  refine transpose_apply _ _ _ _ _ fun d => ?_
  match d with
  | ⟨0, _⟩ => rfl
  | ⟨1, _⟩ => rfl
  | ⟨2, _⟩ => rfl

theorem book_apply (cb : IVec S2x256x8 8) (b : Fin 2) (j : Fin 8) (i : Fin 256) : book cb (ix3 b j i) = cb (ix3 b i j) := by
  unfold book
  refine transpose_apply _ _ _ _ _ fun d => ?_
  match d with
  | ⟨0, _⟩ => rfl
  | ⟨1, _⟩ => rfl
  | ⟨2, _⟩ => rfl

theorem scaleAt_apply (sc : FVec Ideal S18432 .f32) (t : Fin 72) (o : Fin 256) :
    scaleAt (scaleRow sc) t (ix2 0 o) = sc (ix1 (⟨256 * t.val + o.val, by omega⟩ : Fin 18432)) := by
  unfold scaleAt scaleRow
  refine shapeCast_apply _ _ _ _ ?_
  rw [Shape.rowMajor_val_one, Shape.rowMajor_val_two]
  show 256 * t.val + o.val = 0 * 18432 + (256 * t.val + o.val)
  omega

/-- The half a code's top bit names, at the place its low seven bits name, is the code's own entry. -/
theorem half_cases : ∀ c : BitVec 8, (c.getLsbD 7 = true → 128 + c.toNat % 128 = c.toNat) ∧ (c.getLsbD 7 = false → c.toNat % 128 = c.toNat) := by decide

/-- Codebook `b`'s part of the kernel's weight is the codebook's entry. -/
theorem part_entry (codes : IVec S18432x896x2 8) (cb : IVec S2x256x8 8) (t : Fin 72) (b : Fin 2) (o : Fin 256) (k : Fin 7168) :
    (part (F := Ideal) (planesAt (planes codes) t) (tableOf (book cb)) b o k : EReal)
      = Cert.Layer.entry codes cb b ⟨256 * t.val + o.val, by omega⟩ (group k) (comp k) := by
  unfold part value Cert.Layer.entry
  dsimp only
  rw [planesAt_apply, tableOf_lo, tableOf_dx, pick_xor, book_apply, book_apply]
  refine congrArg (Ideal.ofBits .fp8e4m3) ?_
  have key : ∀ (cd : BitVec 8) (h1 : 128 + (place cd).val < 256) (h2 : (place cd).val < 256) (h3 : cd.toNat < 256),
      (if cd.getLsbD 7 = true then cb (ix3 b ⟨128 + (place cd).val, h1⟩ (comp k)) else cb (ix3 b ⟨(place cd).val, h2⟩ (comp k)))
        = cb (ix3 b ⟨cd.toNat, h3⟩ (comp k)) := fun cd h1 h2 h3 => by
    by_cases h : cd.getLsbD 7 = true
    · rw [if_pos h]
      exact congrArg (fun i => cb (ix3 b i (comp k))) (Fin.ext ((half_cases cd).1 h))
    · rw [if_neg h]
      exact congrArg (fun i => cb (ix3 b i (comp k))) (Fin.ext ((half_cases cd).2 (by simpa using h)))
  exact key _ _ _ _

theorem weight_apply (codes : IVec S18432x896x2 8) (cb : IVec S2x256x8 8) (t : Fin 72) (o : Fin 256) (k : Fin 7168) :
    (weight (F := Ideal) (planesAt (planes codes) t) (tableOf (book cb)) (ix2 o k) : EReal)
      = Cert.Layer.weight codes cb ⟨256 * t.val + o.val, by omega⟩ (src k) := by
  have e : (weight (F := Ideal) (planesAt (planes codes) t) (tableOf (book cb)) (ix2 o k) : EReal)
      = (part (F := Ideal) (planesAt (planes codes) t) (tableOf (book cb)) 0 o k : EReal)
        + part (F := Ideal) (planesAt (planes codes) t) (tableOf (book cb)) 1 o k := rfl
  have h1 : (⟨(src k).val / 8, by omega⟩ : Fin 896) = group k := Fin.ext (by
    have := (comp k).isLt; show (8 * (group k).val + (comp k).val) / 8 = _; omega)
  have h2 : (⟨(src k).val % 8, by omega⟩ : Fin 8) = comp k := Fin.ext (by
    have := (comp k).isLt; show (8 * (group k).val + (comp k).val) % 8 = _; omega)
  rw [e, part_entry, part_entry]
  unfold Cert.Layer.weight
  rw [h1, h2]

/-- The kernel's order of the columns, as a bijection. -/
def order : Fin 7168 ≃ Fin 7168 where
  toFun := src
  invFun k := ⟨1024 * (k.val / 1024) + 128 * (k.val % 8) + k.val % 1024 / 8, by omega⟩
  left_inv k := Fin.ext (by
    have h := k.isLt
    obtain ⟨c, e, n, hk, he, hn⟩ : ∃ c e n, k.val = 1024 * c + 128 * e + n ∧ e < 8 ∧ n < 128 :=
      ⟨k.val / 1024, k.val % 1024 / 128, k.val % 128, by omega, by omega, by omega⟩
    have hs : (src k).val = 1024 * c + 8 * n + e := by
      show 8 * (128 * (k.val / 1024) + k.val % 128) + k.val % 1024 / 128 = _; omega
    have a1 : (src k).val / 1024 = c := by omega
    have a2 : (src k).val % 8 = e := by omega
    have a3 : (src k).val % 1024 = 8 * n + e := by omega
    show 1024 * ((src k).val / 1024) + 128 * ((src k).val % 8) + (src k).val % 1024 / 8 = k.val
    rw [a1, a2, a3]
    omega)
  right_inv k := Fin.ext (by
    have h := k.isLt
    obtain ⟨c, e, n, hk, he, hn⟩ : ∃ c e n, k.val = 1024 * c + 8 * n + e ∧ e < 8 ∧ n < 128 :=
      ⟨k.val / 1024, k.val % 8, k.val % 1024 / 8, by omega, by omega, by omega⟩
    obtain ⟨q, hq⟩ : ∃ q, q = 1024 * (k.val / 1024) + 128 * (k.val % 8) + k.val % 1024 / 8 := ⟨_, rfl⟩
    have hq' : q = 1024 * c + 128 * e + n := by omega
    show 8 * (128 * ((1024 * (k.val / 1024) + 128 * (k.val % 8) + k.val % 1024 / 8) / 1024)
      + (1024 * (k.val / 1024) + 128 * (k.val % 8) + k.val % 1024 / 8) % 128)
      + (1024 * (k.val / 1024) + 128 * (k.val % 8) + k.val % 1024 / 8) % 1024 / 128 = k.val
    have a1 : q / 1024 = c := by omega
    have a2 : q % 128 = n := by omega
    have a3 : q % 1024 = 128 * e + n := by omega
    rw [← hq, a1, a2, a3]
    omega)

/-- Seven sums of 1024 are the sum over the 7168 columns. -/
theorem sum_cols (f : Fin 7168 → EReal) : (∑ t : Fin 7, ∑ l : Fin 1024, f (col t l)) = ∑ k : Fin 7168, f k := by
  rw [← Fintype.sum_prod_type', ← Equiv.sum_comp (finProdFinEquiv (m := 7) (n := 1024)) f]
  refine Finset.sum_congr rfl fun p _ => congrArg f (Fin.ext ?_)
  show 1024 * p.1.val + p.2.val = p.2.val + 1024 * p.1.val
  omega

/-- The kernel's result at an index is the layer. -/
theorem result_apply (x : FVec Ideal S1x256x7168 .bf16) (codes : IVec S18432x896x2 8) (cb : IVec S2x256x8 8) (sc : FVec Ideal S18432 .f32)
    (r : Fin 256) (o : Fin 18432) :
    (result (F := Ideal) x codes cb sc (ix3 0 r o) : EReal) = Cert.Layer.layer x codes cb sc r o := by
  unfold result
  rw [shapeCast_apply _ _ _ (ix2 r o) (by
    rw [Shape.rowMajor_val_two, Shape.rowMajor_val_three]
    show r.val * 18432 + o.val = (0 * 256 + r.val) * 18432 + o.val
    omega)]
  show blockAt x codes cb sc (⟨o.val / 256, _⟩ : Fin 72) (ix2 r (⟨o.val % 256, _⟩ : Fin 256)) = _
  unfold blockAt Cert.Layer.layer
  have ho : (⟨256 * (o.val / 256) + o.val % 256, by omega⟩ : Fin 18432) = o := Fin.ext (by show 256 * (o.val / 256) + o.val % 256 = o.val; omega)
  rw [product_apply, scaleAt_apply]
  dsimp only
  rw [ho]
  refine congrArg (· * (sc (ix1 o) : EReal)) ?_
  rw [← Equiv.sum_comp order, ← sum_cols]
  refine Finset.sum_congr rfl fun t _ => Finset.sum_congr rfl fun l _ => ?_
  exact congrArg₂ (fun a b : EReal => a * b) (rows_apply x r (col t l))
    ((weight_apply codes cb _ _ (col t l)).trans (congrArg (fun o' => Cert.Layer.weight codes cb o' (src (col t l))) ho))

end Cert.KernelIdeal.ArrayValue

end
-- ==== Proof.RefTail.lean ====
/-
  The reference's host lines after its kernel, read as one function of the arguments and of the codebook's values.
-/
module

public import proofs.«01_k».proof.Proof.Gen.ReferenceIdeal.Frame
public import Idealize.ShloMosaic.Lib.Pipeline.Value

@[expose] public section

noncomputable section

namespace Cert.ReferenceIdeal.RefValue

open Idealize.ShloMosaic Idealize.ShloMosaic.TcCoe Idealize.SL.Sem
open Cert.ReferenceIdeal Cert.ReferenceIdeal.Gen

variable {F : FTy → Type} [FloatOps F]

/-- The pairs (codebook, code) the reference looks up, as its index arithmetic makes them. -/
def pairs (codes : IVec S18432x896x2 8) : IVec S18432x896x2x2 32 :=
  concatenate S18432x896x2x2 3
    [⟨S18432x896x2x1, broadcastInDim S18432x896x2x1 ![0, 1, 2] bcast_S18432x896x2_S18432x896x2x1_0_1_2
        (broadcastInDim S18432x896x2 ![2] bcast_S2_S18432x896x2_2
          (select (cmpi .slt (iotaInDim S2 32 0) (broadcastInDim S2 ![] bcast_S_S2 (constantI S_ 32 0#32)))
            (addi (iotaInDim S2 32 0) (broadcastInDim S2 ![] bcast_S_S2 (constantI S_ 32 2#32))) (iotaInDim S2 32 0)))⟩,
     ⟨S18432x896x2x1, broadcastInDim S18432x896x2x1 ![0, 1, 2] bcast_S18432x896x2_S18432x896x2x1_0_1_2
        (select (cmpi .slt (extui 32 codes natLt_8_32) (broadcastInDim S18432x896x2 ![] bcast_S_S18432x896x2 (constantI S_ 32 0#32)))
          (addi (extui 32 codes natLt_8_32) (broadcastInDim S18432x896x2 ![] bcast_S_S18432x896x2 (constantI S_ 32 256#32)))
          (extui 32 codes natLt_8_32))⟩]
    concatenates_S18432x896x2x1_S18432x896x2x1_S18432x896x2x2_d3

/-- The decoded weight. -/
def decoded (codes : IVec S18432x896x2 8) (cb : FVec F S2x256x8 .f32) : FVec F S18432x7168 .bf16 :=
  shapeCast S18432x7168 (truncf .bf16
    (Host.reduceAdd (Host.gather gather_S2x256x8_S18432x896x2x2_S18432x896x2x8_3_01_n_n_01_3_118 cb (pairs codes))
      (constant S_ .f32 0x00000000#32) reducesTo_S18432x896x2x8_S18432x896x8_d2 h_S_) bitsLt_bf16_f32)
    shapeCasts_S18432x896x8_S18432x7168

/-- The reference's result. -/
def result (x : FVec F S1x256x7168 .bf16) (codes : IVec S18432x896x2 8) (cb : FVec F S2x256x8 .f32) (sc : FVec F S18432 .f32) :
    FVec F S1x256x18432 .bf16 :=
  truncf .bf16 (mulf
    (Host.dotGeneral dot_S1x256x7168_S18432x7168_S1x256x18432_2_1_01_0_n_n none x (decoded codes cb))
    (broadcastInDim S1x256x18432 ![0, 1, 2] bcast_S1x1x18432_S1x256x18432_0_1_2
      (broadcastInDim S1x1x18432 ![2] bcast_S18432_S1x1x18432_2 sc))) bitsLt_bf16_f32

/-- The lines after the kernel leave `result` in the last buffer. -/
theorem tail (V : Valuation τ sig (Elt F)) :
    StableHlo.after hostOps1 V (Proc.devRef .tc main_v25)
      = result (V (Proc.devRef .tc main_arg0)) (V (Proc.devRef .tc main_arg1)) (V (Proc.devRef .tc main_v0)) (V (Proc.devRef .tc main_arg3)) := by
  unfold result decoded pairs
  after_results
  rfl

end Cert.ReferenceIdeal.RefValue

end
-- ==== Proof.Ref.lean ====
/-
  The reference's run read at its result: the codebook's bytes as floats, looked up by code, summed over the two codebooks,
  multiplied with the activations, scaled.
-/
module

public import proofs.«01_k».proof.Proof.RefTail

@[expose] public section

noncomputable section

namespace Cert.ReferenceIdeal.RefValue

open Idealize.ShloMosaic Idealize.ShloMosaic.TcCoe Idealize.SL.Sem
open Idealize.ShloMosaic.Pipeline (Dat)
open Cert.ReferenceIdeal Cert.ReferenceIdeal.Gen

variable {F : FTy → Type} [FloatOps F]
variable (m : (ℓ : Loc nD τ sig) → Buf (Elt F) ℓ) (ρ : Dev nD → PrngReg)

/-- The codebook's values: each byte read as the float it encodes. -/
abbrev values (cb : IVec S2x256x8 8) : FVec F S2x256x8 .f32 :=
  extf .f32 (bitcastToFloat .fp8e4m3 cb) bitsLt_fp8e4m3_f32

theorem hz : (![0, 0, 0] : Fin 3 → Nat) = fun _ => 0 := funext fun a => by fin_cases a <;> rfl

theorem flushed_eq (c : Dev nD) (t : Fin cfg0.N) :
    (dats m 0 c).flushed 1 t = (win0_1.blk t).view.read (Elt F) (values (m ((c : Thread nD τ).loc main_arg2))) := by
  show (cfg0.win 1).cut (grid0.coords t) ((dats m 0 c).after 1 t) = _
  rw [after0_1]
  unfold out0_1
  rw [View.canon_unit_zero hz, View.ld_unit_zero hz]
  rfl

theorem mem_blk (t : Fin cfg0.N) (i : S2x256x8.Idx) : i ∈ ((cfg0.win 1).blk t).view.set := by
  show i ∈ ((View.whole main_v0).slice (win0_1.rect t)).set
  rw [View.set_slice_whole, Rect.mem_set_unit]
  have h : ∀ a, win0_1.index t a * win0_1.size a = 0 ∧ win0_1.xsize (grid0.coords t) a = S2x256x8.size a := by
    rcases fin_N0 t with rfl; decide +kernel
  intro a
  have e := h a
  have := (i a).isLt
  show win0_1.index t a * win0_1.size a ≤ (i a : Nat) ∧ (i a : Nat) < win0_1.index t a * win0_1.size a + win0_1.xsize (grid0.coords t) a
  rw [e.1, e.2]
  omega

theorem cover (i : S2x256x8.Idx) :
    ∃ t : Fin cfg0.N, (cfg0.win 1).flush t = true ∧ i ∈ ((cfg0.win 1).blk t).view.set :=
  ⟨t0_0, flush0_1 _, mem_blk _ i⟩

theorem final_values (c : Dev nD) : (dats m 0 c).arrAt 1 cfg0.N = values (m ((c : Thread nD τ).loc main_arg2)) :=
  (dats m 0 c).arrAt_eq_of_cover 1 (values (m ((c : Thread nD τ).loc main_arg2))) (fun t _ => flushed_eq m c t) cover

/-- The result buffer after the whole run. -/
theorem result_eq (c : Dev nD) :
    Pipeline.afterTail₀ cfgs (dats m) 0 (V0 m) [hostOps1] c main_v25
      = result (m ((c : Thread nD τ).loc main_arg0)) (m ((c : Thread nD τ).loc main_arg1))
          (values (m ((c : Thread nD τ).loc main_arg2))) (m ((c : Thread nD τ).loc main_arg3)) := by
  unfold Pipeline.afterTail₀
  rw [show ([hostOps1] : List (List (HloOp τ sig (Elt F)))).flatten = hostOps1 from by simp only [List.flatten_cons, List.flatten_nil, List.append_nil], tail,
    Pipeline.withArrays_of_ne _ c (V0 m c) _ main_arg0 (by exact (by decide : ∀ w, Pipeline.arrRef spec0 w ≠ main_arg0)),
    Pipeline.withArrays_of_ne _ c (V0 m c) _ main_arg1 (by exact (by decide : ∀ w, Pipeline.arrRef spec0 w ≠ main_arg1)),
    Pipeline.withArrays_of_ne _ c (V0 m c) _ main_arg3 (by exact (by decide : ∀ w, Pipeline.arrRef spec0 w ≠ main_arg3))]
  refine congrArg₂ (fun a b => result a (m ((c : Thread nD τ).loc main_arg1)) b (m ((c : Thread nD τ).loc main_arg3))) rfl ?_
  refine Eq.trans ?_ (final_values m c)
  exact Pipeline.withArrays_arr spec0 launch0.win.arr_inj c (V0 m c) (fun w => (dats m 0 c).arrAt w cfg0.N) 1

theorem result_run : θ_run defs (onTc (τ := τ) (main (F := F))) ⟨m, fun _ => 0, ρ⟩ (fun r => ∀ c : Dev nD,
      r.2.mem ((c.tc : Thread nD τ).loc main_v25) = result (m ((c : Thread nD τ).loc main_arg0)) (m ((c : Thread nD τ).loc main_arg1))
          (values (m ((c : Thread nD τ).loc main_arg2))) (m ((c : Thread nD τ).loc main_arg3))) :=
  (θ_run defs _ _).mono
    (fun _ h c => ((h c).2 main_v25 (Pipeline.mem_restRefs_of main_v25 (by decide) (by decide))).trans (result_eq m c))
    (run_main m ρ)

/-- Every run of the reference ends with its result, the arguments unchanged. -/
theorem run : θ_run defs (onTc (τ := τ) (main (F := F))) ⟨m, fun _ => 0, ρ⟩ (fun r => ∀ c : Dev nD,
      r.2.mem ((c.tc : Thread nD τ).loc main_v25) = result (m ((c : Thread nD τ).loc main_arg0)) (m ((c : Thread nD τ).loc main_arg1))
          (values (m ((c : Thread nD τ).loc main_arg2))) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h.1 c, h.2 c⟩)
    (θ_run_and (result_run m ρ) (unchanged m ρ))

end Cert.ReferenceIdeal.RefValue

end
-- ==== Proof.RefSum.lean ====
/-
  The reference's result at an index, over the extended reals, is the layer: its gather looks up the entries, its reduction
  adds the two codebooks' entries, its product sums over all 7168 columns.
-/
module

public import proofs.«01_k».proof.Proof.Ref
public import proofs.«01_k».proof.Proof.Spec
public import Idealize.ShloMosaic.Lib.IdealHost

@[expose] public section

set_option maxRecDepth 4096

noncomputable section

open scoped BigOperators
open Idealize.ShloMosaic Idealize.ShloMosaic.ValueIdx
open Cert.ReferenceIdeal Cert.ReferenceIdeal.Gen

namespace Cert.ReferenceIdeal.RefValue

abbrev GD := gather_S2x256x8_S18432x896x2x2_S18432x896x2x8_3_01_n_n_01_3_118

/-- Where the gather reads its pair. -/
theorem siIdx_apply (o : Fin 18432) (g : Fin 896) (b : Fin 2) (j : Fin 8) (q : Fin 2) :
    GD.siIdx (ix4 o g b j) q = ix4 o g b q := by
  funext d; refine Fin.ext ?_
  match d with
  | ⟨0, _⟩ => rfl
  | ⟨1, _⟩ => rfl
  | ⟨2, _⟩ => rfl
  | ⟨3, _⟩ => rfl

/-- The lookup: entry `c` of codebook `b`, where the pair at the place is `(b, c)`. -/
theorem lookup_apply {α : Type} (cb : S2x256x8.Idx → α) (idx : IVec S18432x896x2x2 32) (o : Fin 18432) (g : Fin 896) (b : Fin 2) (j : Fin 8)
    (c : Fin 256) (e0 : (idx (ix4 o g b 0)).toInt.toNat = b.val) (e1 : (idx (ix4 o g b 1)).toInt.toNat = c.val) :
    Host.gather GD cb idx (ix4 o g b j) = cb (ix3 b c j) := by
  unfold Host.gather
  refine congrArg cb (funext fun a => Fin.ext ?_)
  show GD.start (ix4 o g b j) idx a + GD.batchCoord (ix4 o g b j) a + GD.offCoord (ix4 o g b j) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (by decide))]
    unfold GatherDims.start
    rw [dif_pos (show (0 : Fin 3) ∈ GD.startIndexMap by decide)]
    show min (idx (GD.siIdx (ix4 o g b j) (0 : Fin 2))).toInt.toNat (2 - 1) + 0 + 0 = b.val
    rw [siIdx_apply, e0]
    omega
  · rw [GatherDims.offCoord_eq_zero _ _ _ (fun h => ((GatherDims.mem_sKept _ _).mp h).1 (by decide))]
    unfold GatherDims.start
    rw [dif_pos (show (1 : Fin 3) ∈ GD.startIndexMap by decide)]
    show min (idx (GD.siIdx (ix4 o g b j) (1 : Fin 2))).toInt.toNat (256 - 1) + 0 + 0 = c.val
    rw [siIdx_apply, e1]
    omega
  · unfold GatherDims.start
    rw [dif_neg (show (2 : Fin 3) ∉ GD.startIndexMap by decide)]
    unfold GatherDims.offCoord
    rw [dif_pos (show (2 : Fin 3) ∈ GD.sKept by decide)]
    show 0 + 0 + j.val = j.val
    omega

/-- A code as the reference's index, whose sign test never fires. -/
theorem code_index : ∀ c : BitVec 8,
    (Scalar.select (IntOp.cmpi .slt (c.setWidth 32) 0#32) (IntOp.addi (c.setWidth 32) 256#32) (c.setWidth 32)).toInt.toNat = c.toNat := by
  decide

/-- A codebook's number as the reference's index, whose sign test never fires. -/
theorem book_index : ∀ b : Fin 2,
    (Scalar.select (IntOp.cmpi .slt (BitVec.ofNat 32 b.val) 0#32) (IntOp.addi (BitVec.ofNat 32 b.val) 2#32) (BitVec.ofNat 32 b.val)).toInt.toNat = b.val := by
  decide

theorem pairs_book (codes : IVec S18432x896x2 8) (o : Fin 18432) (g : Fin 896) (b : Fin 2) :
    (pairs codes (ix4 o g b 0)).toInt.toNat = b.val := by
  unfold pairs
  rw [concatenate_pair_apply_left (s₁ := S18432x896x2x1) (s₂ := S18432x896x2x1) (t := S18432x896x2x2) _ _ _ _ (ix4 o g b 0) rfl (ix4 o g b (0 : Fin 1)) (fun d => by
      match d with
      | ⟨0, _⟩ => rfl
      | ⟨1, _⟩ => rfl
      | ⟨2, _⟩ => rfl
      | ⟨3, _⟩ => rfl),
    broadcastInDim_apply _ _ _ _ (ix3 o g b) (fun d => by
      match d with
      | ⟨0, _⟩ => rfl
      | ⟨1, _⟩ => rfl
      | ⟨2, _⟩ => rfl),
    broadcastInDim_apply _ _ _ _ (ix1 b) (fun d => by
      match d with
      | ⟨0, _⟩ => rfl)]
  exact book_index b

theorem pairs_code (codes : IVec S18432x896x2 8) (o : Fin 18432) (g : Fin 896) (b : Fin 2) :
    (pairs codes (ix4 o g b 1)).toInt.toNat = (codes (ix3 o g b)).toNat := by
  unfold pairs
  rw [concatenate_pair_apply_right (s₁ := S18432x896x2x1) (s₂ := S18432x896x2x1) (t := S18432x896x2x2) _ _ _ _ (ix4 o g b 1) rfl rfl (ix4 o g b (0 : Fin 1)) (fun d hd => by
      match d with
      | ⟨0, _⟩ => rfl
      | ⟨1, _⟩ => rfl
      | ⟨2, _⟩ => rfl
      | ⟨3, _⟩ => exact absurd rfl hd) rfl,
    broadcastInDim_apply _ _ _ _ (ix3 o g b) (fun d => by
      match d with
      | ⟨0, _⟩ => rfl
      | ⟨1, _⟩ => rfl
      | ⟨2, _⟩ => rfl)]
  exact code_index (codes (ix3 o g b))

/-- The reduction over the two codebooks. -/
theorem reduce_apply (x : FVec Ideal S18432x896x2x8 .f32) (o : Fin 18432) (g : Fin 896) (j : Fin 8) :
    (Host.reduceAdd x (constant S_ .f32 0x00000000#32) reducesTo_S18432x896x2x8_S18432x896x8_d2 h_S_ (ix3 o g j) : EReal)
      = (x (ix4 o g 0 j) : EReal) + x (ix4 o g 1 j) := by
  rw [hostReduceAdd_apply, Ideal.hostReduceAdd_single _ (by decide : S18432x896x2x8.Reduces [2] S18432x896x8)]
  have hz : (constant (F := Ideal) S_ .f32 0x00000000#32 (Shape.Idx.first h_S_) : EReal) = 0 := Ideal.ofBits_zero_f32
  rw [hz, zero_add]
  have hl : ∀ b : Fin 2, (by decide : S18432x896x2x8.Reduces [2] S18432x896x8).lift (ix3 o g j) b = ix4 o g b j := fun b => by
    funext d; refine Fin.ext ?_
    match d with
    | ⟨0, _⟩ => rfl
    | ⟨1, _⟩ => rfl
    | ⟨2, _⟩ => rfl
    | ⟨3, _⟩ => rfl
  refine (Fin.sum_univ_two (M := EReal) (fun b : Fin 2 => x ((by decide : S18432x896x2x8.Reduces [2] S18432x896x8).lift (ix3 o g j) b))).trans ?_
  rw [hl, hl]

theorem decoded_apply (codes : IVec S18432x896x2 8) (cb : IVec S2x256x8 8) (o : Fin 18432) (k : Fin 7168) :
    (decoded (F := Ideal) codes (values cb) (ix2 o k) : EReal) = Cert.Layer.weight codes cb o k := by
  unfold decoded Cert.Layer.weight Cert.Layer.entry
  rw [shapeCast_apply _ _ (ix2 o k) (ix3 o (⟨k.val / 8, by omega⟩ : Fin 896) (⟨k.val % 8, by omega⟩ : Fin 8)) (by
      rw [Shape.rowMajor_val_three, Shape.rowMajor_val_two]
      show (o.val * 896 + k.val / 8) * 8 + k.val % 8 = o.val * 7168 + k.val
      omega), truncf_apply, reduce_apply]
  exact congrArg₂ (fun a b : EReal => a + b)
    (lookup_apply (values (F := Ideal) cb) _ o _ 0 _ ⟨_, (codes (ix3 o _ 0)).isLt⟩ (pairs_book codes o _ 0) (pairs_code codes o _ 0))
    (lookup_apply (values (F := Ideal) cb) _ o _ 1 _ ⟨_, (codes (ix3 o _ 1)).isLt⟩ (pairs_book codes o _ 1) (pairs_code codes o _ 1))

abbrev DD := dot_S1x256x7168_S18432x7168_S1x256x18432_2_1_01_0_n_n

/-- The product at an index. -/
theorem dot_apply (x : FVec Ideal S1x256x7168 .bf16) (w : FVec Ideal S18432x7168 .bf16) (r : Fin 256) (o : Fin 18432) :
    (Host.dotGeneral DD none x w (ix3 0 r o) : EReal)
      = ∑ k : Fin 7168, ((x (ix3 0 r k) : EReal) * w (ix2 o k)) := by
  refine (Ideal.dotGeneral_apply DD none .single x w (ix3 0 r o)).trans ?_
  rw [← Equiv.sum_comp (contrEquiv1 DD 7168 rfl rfl).symm]
  refine Finset.sum_congr rfl fun k _ => ?_
  have hk := contrEquiv1_symm_val DD 7168 rfl rfl k
  have el : DD.lhsIdx (ix3 0 r o) ((contrEquiv1 DD 7168 rfl rfl).symm k) = ix3 0 r k := by
    funext a; apply Fin.ext
    match a with
    | ⟨0, _⟩ => rfl
    | ⟨1, _⟩ => rfl
    | ⟨2, _⟩ => exact hk
  have er : DD.rhsIdx (ix3 0 r o) ((contrEquiv1 DD 7168 rfl rfl).symm k) = ix2 o k := by
    funext a; apply Fin.ext
    match a with
    | ⟨0, _⟩ => rfl
    | ⟨1, _⟩ => exact hk
  rw [el, er]

/-- The reference's result at an index is the layer. -/
theorem result_apply (x : FVec Ideal S1x256x7168 .bf16) (codes : IVec S18432x896x2 8) (cb : IVec S2x256x8 8) (sc : FVec Ideal S18432 .f32)
    (r : Fin 256) (o : Fin 18432) :
    (result (F := Ideal) x codes (values cb) sc (ix3 0 r o) : EReal) = Cert.Layer.layer x codes cb sc r o := by
  unfold result Cert.Layer.layer
  rw [truncf_apply, mulf_apply, dot_apply,
    broadcastInDim_apply _ _ _ (ix3 0 r o) (ix3 (0 : Fin 1) (0 : Fin 1) o) (fun d => by
      match d with
      | ⟨0, _⟩ => rfl
      | ⟨1, _⟩ => rfl
      | ⟨2, _⟩ => rfl),
    broadcastInDim_apply _ _ _ _ (ix1 o) (fun d => by
      match d with
      | ⟨0, _⟩ => rfl)]
  refine congrArg (· * (sc (ix1 o) : EReal)) (Finset.sum_congr rfl fun k _ => ?_)
  rw [decoded_apply]

end Cert.ReferenceIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelSum
public import proofs.«01_k».proof.Proof.RefSum
public import Idealize.ShloMosaic.Adequacy
public import Idealize.ShloMosaic.Init

@[expose] public section

noncomputable section

namespace Cert.Proof

open Idealize.ShloMosaic Idealize.SL.Sem Cert.Kernel

/-- An index of the result, by its row and its column. -/
theorem index_split (i : Cert.KernelIdeal.S1x256x18432.Idx) : i = ValueIdx.ix3 0 (i 1) (i 2) := by
  funext d
  match d with
  | ⟨0, _⟩ => exact Subsingleton.elim (α := Fin 1) _ _
  | ⟨1, _⟩ => rfl
  | ⟨2, _⟩ => rfl

/-- The two programs' results are one array: at every index both are the layer. -/
theorem result_eq (x : FVec Ideal Cert.KernelIdeal.S1x256x7168 .bf16) (codes : IVec Cert.KernelIdeal.S18432x896x2 8)
    (cb : IVec Cert.KernelIdeal.S2x256x8 8) (sc : FVec Ideal Cert.KernelIdeal.S18432 .f32) :
    Cert.ReferenceIdeal.RefValue.result (F := Ideal) x codes (Cert.ReferenceIdeal.RefValue.values cb) sc
      = Cert.KernelIdeal.ArrayValue.result (F := Ideal) x codes cb sc := by
  funext i
  rw [index_split i]
  exact (Cert.ReferenceIdeal.RefValue.result_apply x codes cb sc (i 1) (i 2)).trans
    (Cert.KernelIdeal.ArrayValue.result_apply x codes cb sc (i 1) (i 2)).symm

theorem algebraic : Cert.algebraic_KernelIdeal_ReferenceIdeal (hKernelIdeal := Cert.KernelIdeal.Gen.facts)
    (hReferenceIdeal := Cert.ReferenceIdeal.Gen.facts) := by
  intro m g m' g' _ hagree
  refine ⟨_, Cert.KernelIdeal.ArrayValue.run (F := Ideal) m g,
    (θ_run _ _ _).mono (fun r h c => ⟨(h c).1.trans ?_, (h c).2⟩) (Cert.ReferenceIdeal.RefValue.run (F := Ideal) m' g')⟩
  rw [(hagree c).1, (hagree c).2.1, (hagree c).2.2.1, (hagree c).2.2.2]
  exact result_eq _ _ _ _

theorem claim : Cert.Claim := ⟨Cert.Kernel.Gen.facts, Cert.KernelIdeal.Gen.facts, Cert.ReferenceIdeal.Gen.facts,
  fun m ρ _ => Cert.Kernel.Gen.frame (F := Bits) m ρ, fun m ρ _ => Cert.KernelIdeal.Gen.frame (F := Ideal) m ρ,
  fun m ρ _ => Cert.ReferenceIdeal.Gen.frame (F := Ideal) m ρ, trivial, algebraic⟩

end Cert.Proof

end
